-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1536x5888 : Shape := ⟨3, ![4, 1536, 5888]⟩
abbrev S8512x5888 : Shape := ⟨2, ![8512, 5888]⟩
abbrev S8512 : Shape := ⟨1, ![8512]⟩
abbrev S_ : Shape := ⟨0, ![]⟩

class Facts : Prop where
  bitsLt_bf16_f32 : FTy.bits .bf16 < FTy.bits .f32
  bcast_S_S4x1536x5888 : S_.BroadcastsInDim S4x1536x5888 (![] : Fin 0 → Fin S4x1536x5888.rank)

variable [Facts]

def fn {F : FTy → Type} [FloatOps F] (main_arg0 : FVec F S4x1536x5888 .bf16) (main_arg1 : FVec F S8512x5888 .fp8e4m3) (main_arg2 : FVec F S8512 .f32) : IVec S4x1536x5888 1 :=
  let main_v0 : FVec F S4x1536x5888 .f32 := (extf .f32 · bitsLt_bf16_f32) main_arg0
  let main_v1 : FVec F S4x1536x5888 .f32 := Host.absf main_v0
  let main_cst : FVec F S_ .f32 := constant S_ .f32 0x7F7F0000#32
  let main_v2 : FVec F S4x1536x5888 .f32 := broadcastInDim S4x1536x5888 ![] bcast_S_S4x1536x5888 main_cst
  let main_v3 : IVec S4x1536x5888 1 := cmpf .ole main_v1 main_v2
  main_v3
-- ==== Kernel.lean ====
abbrev S4x1536x5888 : Shape := ⟨3, ![4, 1536, 5888]⟩
abbrev S8512x5888 : Shape := ⟨2, ![8512, 5888]⟩
abbrev S8512 : Shape := ⟨1, ![8512]⟩
abbrev S6144x5888 : Shape := ⟨2, ![6144, 5888]⟩
abbrev S1x8512 : Shape := ⟨2, ![1, 8512]⟩
abbrev S6144x4096 : Shape := ⟨2, ![6144, 4096]⟩
abbrev S6144x128 : Shape := ⟨2, ![6144, 128]⟩
abbrev S6144x64 : Shape := ⟨2, ![6144, 64]⟩
abbrev S6144x1 : Shape := ⟨2, ![6144, 1]⟩
abbrev S64x5888 : Shape := ⟨2, ![64, 5888]⟩
abbrev S512x5888 : Shape := ⟨2, ![512, 5888]⟩
abbrev S1x512 : Shape := ⟨2, ![1, 512]⟩
abbrev S1024x512 : Shape := ⟨2, ![1024, 512]⟩
abbrev S1024x128 : Shape := ⟨2, ![1024, 128]⟩
abbrev S1024x64 : Shape := ⟨2, ![1024, 64]⟩
abbrev S64x1 : Shape := ⟨2, ![64, 1]⟩
abbrev S2x1024x5888 : Shape := ⟨3, ![2, 1024, 5888]⟩
abbrev S2x1024x128 : Shape := ⟨3, ![2, 1024, 128]⟩
abbrev S64 : Shape := ⟨1, ![64]⟩
abbrev S1x64x5888 : Shape := ⟨3, ![1, 64, 5888]⟩
abbrev S64x128 : Shape := ⟨2, ![64, 128]⟩
abbrev S1x64x128 : Shape := ⟨3, ![1, 64, 128]⟩
abbrev S1x1024x5888 : Shape := ⟨3, ![1, 1024, 5888]⟩
abbrev S1024x5888 : Shape := ⟨2, ![1024, 5888]⟩
abbrev S1x1024x128 : Shape := ⟨3, ![1, 1024, 128]⟩

abbrev nBuf : Space → Nat
  | .hbm => 12
  | .vmem => 22
  | .smem => 0
  | _ => 0

abbrev bufTy : (tb : Table) → Fin (tcTables nBuf tb) → BufTy
  | .hbm, ⟨0, _⟩ => ⟨S4x1536x5888, .bf16⟩
  | .hbm, ⟨1, _⟩ => ⟨S8512x5888, .fp8e4m3⟩
  | .hbm, ⟨2, _⟩ => ⟨S8512, .f32⟩
  | .hbm, ⟨3, _⟩ => ⟨S6144x5888, .bf16⟩
  | .hbm, ⟨4, _⟩ => ⟨S1x8512, .f32⟩
  | .hbm, ⟨5, _⟩ => ⟨S6144x4096, .bf16⟩
  | .hbm, ⟨6, _⟩ => ⟨S6144x4096, .bf16⟩
  | .hbm, ⟨7, _⟩ => ⟨S6144x128, .bf16⟩
  | .hbm, ⟨8, _⟩ => ⟨S6144x128, .bf16⟩
  | .hbm, ⟨9, _⟩ => ⟨S6144x64, .bf16⟩
  | .hbm, ⟨10, _⟩ => ⟨S6144x5888, .fp8e4m3⟩
  | .hbm, ⟨11, _⟩ => ⟨S6144x1, .f32⟩
  | .local _ .vmem, ⟨0, _⟩ => ⟨S64x5888, .bf16⟩
  | .local _ .vmem, ⟨1, _⟩ => ⟨S64x5888, .bf16⟩
  | .local _ .vmem, ⟨2, _⟩ => ⟨S512x5888, .fp8e4m3⟩
  | .local _ .vmem, ⟨3, _⟩ => ⟨S512x5888, .fp8e4m3⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x64, .bf16⟩
  | .local _ .vmem, ⟨15, _⟩ => ⟨S1024x64, .bf16⟩
  | .local _ .vmem, ⟨16, _⟩ => ⟨S64x5888, .fp8e4m3⟩
  | .local _ .vmem, ⟨17, _⟩ => ⟨S64x5888, .fp8e4m3⟩
  | .local _ .vmem, ⟨18, _⟩ => ⟨S64x1, .f32⟩
  | .local _ .vmem, ⟨19, _⟩ => ⟨S64x1, .f32⟩
  | .local _ .vmem, ⟨20, _⟩ => ⟨S2x1024x5888, .fp8e4m3⟩
  | .local _ .vmem, ⟨21, _⟩ => ⟨S2x1024x128, .f32⟩
  | _, _ => ⟨S4x1536x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![7, 17], ![false, false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let arg1 : BitVec 32 := BitVec.ofNat 32 (i 1).val
  let c16_i32 : BitVec 32 := 16#32
  let v1 : BitVec 1 := Scalar.cmpi .slt arg1 c16_i32
  let v2 : BitVec 1 := Scalar.andi v0 v1
  let v3 : BitVec 32 := Scalar.extui v2
  let c0_i32 : BitVec 32 := 0#32
  let v4 : BitVec 1 := Scalar.cmpi .ne v3 c0_i32
  v4

def k0_mult1 (i : grid0.Coords) : BitVec 32 :=
  let arg1 : BitVec 32 := BitVec.ofNat 32 (i 1).val
  let c64_i32_35 : BitVec 32 := 64#32
  let v136 : BitVec 32 := Scalar.muli arg1 c64_i32_35
  v136
def k0_off1 (i : grid0.Coords) : Fin 3 → Nat :=
  let arg0 : BitVec 32 := BitVec.ofNat 32 (i 0).val
  let c2_i32_34 : BitVec 32 := 2#32
  let v135 : BitVec 32 := Scalar.remsi arg0 c2_i32_34
  let v138 : Index := Scalar.indexCast v135
  let arg1 : BitVec 32 := BitVec.ofNat 32 (i 1).val
  let c64_i32_35 : BitVec 32 := 64#32
  let v136 : BitVec 32 := Scalar.muli arg1 c64_i32_35
  let v137 : BitVec 32 := v136
  let v139 : Index := Scalar.indexCast v137
  let c0_36 : Index := 0#32
  ![v138.toNat, v139.toNat, 0]
def k0_off2 (i : grid0.Coords) : Fin 3 → Nat :=
  let arg0 : BitVec 32 := BitVec.ofNat 32 (i 0).val
  let c2_i32_34 : BitVec 32 := 2#32
  let v135 : BitVec 32 := Scalar.remsi arg0 c2_i32_34
  let v145 : Index := Scalar.indexCast v135
  let arg1 : BitVec 32 := BitVec.ofNat 32 (i 1).val
  let c64_i32_35 : BitVec 32 := 64#32
  let v136 : BitVec 32 := Scalar.muli arg1 c64_i32_35
  let v137 : BitVec 32 := v136
  let v146 : Index := Scalar.indexCast v137
  let c0_37 : Index := 0#32
  ![v145.toNat, v146.toNat, 0]
def k0_cond2 (i : grid0.Coords) : BitVec 1 :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c0_i32_1 : BitVec 32 := 0#32
  let v7 : BitVec 1 := Scalar.cmpi .ne v6 c0_i32_1
  v7

def k0_off3 (i : grid0.Coords) : Fin 3 → Nat :=
  let arg0 : BitVec 32 := BitVec.ofNat 32 (i 0).val
  let c1_i32 : BitVec 32 := 1#32
  let v8 : BitVec 32 := Scalar.addi arg0 c1_i32
  let c2_i32 : BitVec 32 := 2#32
  let v9 : BitVec 32 := Scalar.remsi v8 c2_i32
  let v10 : Index := Scalar.indexCast v9
  let c0 : Index := 0#32
  let c0_2 : Index := 0#32
  ![v10.toNat, 0, 0]
def k0_off4 (i : grid0.Coords) : Fin 3 → Nat :=
  let arg0 : BitVec 32 := BitVec.ofNat 32 (i 0).val
  let c1_i32 : BitVec 32 := 1#32
  let v8 : BitVec 32 := Scalar.addi arg0 c1_i32
  let c2_i32 : BitVec 32 := 2#32
  let v9 : BitVec 32 := Scalar.remsi v8 c2_i32
  let v15 : Index := Scalar.indexCast v9
  let c0_5 : Index := 0#32
  let c0_6 : Index := 0#32
  ![v15.toNat, 0, 0]
def k0_cond3 (i : grid0.Coords) : BitVec 1 :=
  let arg1 : BitVec 32 := BitVec.ofNat 32 (i 1).val
  let c8_i32 : BitVec 32 := 8#32
  let v25 : BitVec 1 := Scalar.cmpi .slt arg1 c8_i32
  let v26 : BitVec 32 := Scalar.extui v25
  let c0_i32_9 : BitVec 32 := 0#32
  let v27 : BitVec 1 := Scalar.cmpi .ne v26 c0_i32_9
  v27

def k0_cond4 (i : grid0.Coords) : BitVec 1 :=
  let arg1 : BitVec 32 := BitVec.ofNat 32 (i 1).val
  let c8_i32_10 : BitVec 32 := 8#32
  let v28 : BitVec 1 := Scalar.cmpi .sge arg1 c8_i32_10
  let c16_i32_11 : BitVec 32 := 16#32
  let v29 : BitVec 1 := Scalar.cmpi .slt arg1 c16_i32_11
  let v30 : BitVec 1 := Scalar.andi v28 v29
  let v31 : BitVec 32 := Scalar.extui v30
  let c0_i32_12 : BitVec 32 := 0#32
  let v32 : BitVec 1 := Scalar.cmpi .ne v31 c0_i32_12
  v32

def k0_cond5 (i : grid0.Coords) : BitVec 1 :=
  let arg1 : BitVec 32 := BitVec.ofNat 32 (i 1).val
  let c16_i32_13 : BitVec 32 := 16#32
  let v33 : BitVec 1 := Scalar.cmpi .eq arg1 c16_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c95_i32 : BitVec 32 := 95#32
  let v3 : BitVec 32 := Scalar.minsi v2 c95_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c7_i32 : BitVec 32 := 7#32
  let v3 : BitVec 32 := Scalar.minsi arg1 c7_i32
  let c0_i32_1 : BitVec 32 := 0#32
  let v4 : BitVec 32 := Scalar.select v2 v3 c0_i32_1
  let c0_i32_2 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c8_i32 : BitVec 32 := 8#32
  let v3 : BitVec 32 := Scalar.subi arg1 c8_i32
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 32 := Scalar.select v2 v5 c0_i32_2
  let c0_i32_3 : BitVec 32 := 0#32
  ![v1.toNat, v6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c95_i32 : BitVec 32 := 95#32
  let v3 : BitVec 32 := Scalar.minsi v2 c95_i32
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c95_i32 : BitVec 32 := 95#32
  let v3 : BitVec 32 := Scalar.minsi v2 c95_i32
  let c0_i32 : BitVec 32 := 0#32
  let c0_i32_0 : BitVec 32 := 0#32
  ![v3.toNat, c0_i32.toNat]

abbrev stage0_0 : Fin 2 → Memref sig .tc .vmem S64x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x5888 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x5888 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x1536x5888 : Shape := ⟨3, ![4, 1536, 5888]⟩
abbrev S8512x5888 : Shape := ⟨2, ![8512, 5888]⟩
abbrev S8512 : Shape := ⟨1, ![8512]⟩
abbrev S6144x5888 : Shape := ⟨2, ![6144, 5888]⟩
abbrev S1x8512 : Shape := ⟨2, ![1, 8512]⟩
abbrev S6144x4096 : Shape := ⟨2, ![6144, 4096]⟩
abbrev S6144x128 : Shape := ⟨2, ![6144, 128]⟩
abbrev S6144x64 : Shape := ⟨2, ![6144, 64]⟩
abbrev S6144x1 : Shape := ⟨2, ![6144, 1]⟩
abbrev S6144 : Shape := ⟨1, ![6144]⟩
abbrev S6144x8512 : Shape := ⟨2, ![6144, 8512]⟩

abbrev nBuf : Space → Nat
  | .hbm => 12
  | .vmem => 10
  | .smem => 0
  | _ => 0

abbrev bufTy : (tb : Table) → Fin (tcTables nBuf tb) → BufTy
  | .hbm, ⟨0, _⟩ => ⟨S4x1536x5888, .bf16⟩
  | .hbm, ⟨1, _⟩ => ⟨S8512x5888, .fp8e4m3⟩
  | .hbm, ⟨2, _⟩ => ⟨S8512, .f32⟩
  | .hbm, ⟨3, _⟩ => ⟨S6144x5888, .bf16⟩
  | .hbm, ⟨4, _⟩ => ⟨S1x8512, .f32⟩
  | .hbm, ⟨5, _⟩ => ⟨S6144x4096, .bf16⟩
  | .hbm, ⟨6, _⟩ => ⟨S6144x4096, .bf16⟩
  | .hbm, ⟨7, _⟩ => ⟨S6144x128, .bf16⟩
  | .hbm, ⟨8, _⟩ => ⟨S6144x128, .bf16⟩
  | .hbm, ⟨9, _⟩ => ⟨S6144x64, .bf16⟩
  | .hbm, ⟨10, _⟩ => ⟨S6144x5888, .fp8e4m3⟩
  | .hbm, ⟨11, _⟩ => ⟨S6144x1, .f32⟩
  | .local _ .vmem, ⟨0, _⟩ => ⟨S6144x5888, .bf16⟩
  | .local _ .vmem, ⟨1, _⟩ => ⟨S8512x5888, .fp8e4m3⟩
  | .local _ .vmem, ⟨2, _⟩ => ⟨S1x8512, .f32⟩
  | .local _ .vmem, ⟨3, _⟩ => ⟨S6144x4096, .bf16⟩
  | .local _ .vmem, ⟨4, _⟩ => ⟨S6144x4096, .bf16⟩
  | .local _ .vmem, ⟨5, _⟩ => ⟨S6144x128, .bf16⟩
  | .local _ .vmem, ⟨6, _⟩ => ⟨S6144x128, .bf16⟩
  | .local _ .vmem, ⟨7, _⟩ => ⟨S6144x64, .bf16⟩
  | .local _ .vmem, ⟨8, _⟩ => ⟨S6144x5888, .fp8e4m3⟩
  | .local _ .vmem, ⟨9, _⟩ => ⟨S6144x1, .f32⟩
  | _, _ => ⟨S4x1536x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6144x5888 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8512x5888 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x5888 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Frame.lean ====
/- The frame of `Kernel`: at any reading of the floats, from any memory with its counters at zero, the program ends with
   its three arguments unchanged and every counter at zero. Nothing is named of what the body leaves in any buffer. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The body's twelve operands, each owned at some contents. -/
def held (c : Dev nD) (arg2 : Memref sig .tc .vmem S64x5888 .bf16) (arg3 : Memref sig .tc .vmem S512x5888 .fp8e4m3) (arg4 : Memref sig .tc .vmem S1x512 .f32) (arg5 : Memref sig .tc .vmem S1024x512 .bf16) (arg6 : Memref sig .tc .vmem S1024x512 .bf16) (arg7 : Memref sig .tc .vmem S1024x128 .bf16) (arg8 : Memref sig .tc .vmem S1024x128 .bf16) (arg9 : Memref sig .tc .vmem S1024x64 .bf16) (arg10 : Memref sig .tc .vmem S64x5888 .fp8e4m3) (arg11 : Memref sig .tc .vmem S64x1 .f32) (arg12 : Memref sig .tc .vmem S2x1024x5888 .fp8e4m3) (arg13 : Memref sig .tc .vmem S2x1024x128 .f32) : sProp 𝕄 :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

set_option maxHeartbeats 16000000 in
/-- THE BODY KEEPS WHAT IT HOLDS: on whole buffers at any contents, at any grid point, the body runs and hands each
    buffer back at some contents. -/
theorem body_keeps (c : Dev nD) (i : grid0.Coords) (arg2 : Memref sig .tc .vmem S64x5888 .bf16) (harg2 : arg2.IsWhole) (arg3 : Memref sig .tc .vmem S512x5888 .fp8e4m3) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x64 .bf16) (harg9 : arg9.IsWhole) (arg10 : Memref sig .tc .vmem S64x5888 .fp8e4m3) (harg10 : arg10.IsWhole) (arg11 : Memref sig .tc .vmem S64x1 .f32) (harg11 : arg11.IsWhole) (arg12 : Memref sig .tc .vmem S2x1024x5888 .fp8e4m3) (harg12 : arg12.IsWhole) (arg13 : Memref sig .tc .vmem S2x1024x128 .f32) (harg13 : arg13.IsWhole) (K : PUnit → sProp 𝕄) :
    iprop(held c arg2 arg3 arg4 arg5 arg6 arg7 arg8 arg9 arg10 arg11 arg12 arg13 ∗ (held c arg2 arg3 arg4 arg5 arg6 arg7 arg8 arg9 arg10 arg11 arg12 arg13 -∗ K ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel held
  unfold owns
  obtain h2 | ⟨h2, hh⟩ : ¬(k0_cond2 i = 1#1) ∨ (k0_cond2 i = 1#1 ∧ (k0_cond3 i = 1#1 ∨ ¬(k0_cond3 i = 1#1))
      ∧ (k0_cond4 i = 1#1 ∨ ¬(k0_cond4 i = 1#1)) ∧ (k0_cond5 i = 1#1 ∨ ¬(k0_cond5 i = 1#1))) :=
    (em _).symm.imp_right fun h => ⟨h, em _, em _, em _⟩
  all_goals try obtain ⟨h3 | h3, h4 | h4, h5 | h5⟩ := hh
  all_goals by_cases h1 : k0_cond1 i = 1#1
  all_goals
    iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
    sl_exec (disch := first | sl_exact h1 | sl_exact h2 | sl_exact h3 | sl_exact h4 | sl_exact h5)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-- The proof data: the arrays as the launch finds them; nothing said of what any staging buffer holds; between points
    the scratch at some contents. -/
def rdat (m : (ℓ : Loc nD τ sig) → Buf (Elt F) ℓ) (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- What is kept between points, with the two scratch operands as buffers owned at some contents. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The body table's row at a point is the body on the staging buffers of that point. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body obligation at every point, by `body_keeps`. -/
theorem obligation (m : (ℓ : Loc nD τ sig) → Buf (Elt F) ℓ) (c : Dev nD) :
    (rdat m c).BodyObligation (defs₀ (F := F)) Variants.none () Set.univ := fun t Y _ => by
  rw [bigSep_W0, bigSep_W0, defs₀_row]
  rw [show (rdat m c).Φ t.succ = Pipeline.ΦA spec0 c from rfl, show (rdat m c).Φ t.castSucc = Pipeline.ΦA spec0 c from rfl,
    show (rdat m c).owesAt () t.succ = (rdat m c).owesAt () t.castSucc from rfl, kept_eq]
  unfold bodyAt0
  iintro ⟨⟨⟨HS0, HS1⟩, Hg⟩, Ho, H0, H1, H2, H3, H4, H5, H6, H7, H8, H9⟩
  iapply (body_keeps c (grid0.coords t) _ _ _ _ _ _ _ _ _ _ _ _ _ _ _ _ _ _ _ _ _ _ _ _ _)
  unfold held
  isplitl [H0 H1 H2 H3 H4 H5 H6 H7 H8 H9 HS0 HS1]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    iexact HS1
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HS0, HS1⟩
  isplitl [HS0 HS1 Hg]
  · isplitl [HS0 HS1]
    · isplitl [HS0]; · iexact HS0
      iexact HS1
    iexact Hg
  isplitl [Ho]; · iexact Ho
  isplitl [H0]
  · iexists d0; isplitr; · ipureintro; exact trivial
    iexact H0
  isplitl [H1]
  · iexists d1; isplitr; · ipureintro; exact trivial
    iexact H1
  isplitl [H2]
  · iexists d2; isplitr; · ipureintro; exact trivial
    iexact H2
  isplitl [H3]
  · iexists d3; isplitr; · ipureintro; exact trivial
    iexact H3
  isplitl [H4]
  · iexists d4; isplitr; · ipureintro; exact trivial
    iexact H4
  isplitl [H5]
  · iexists d5; isplitr; · ipureintro; exact trivial
    iexact H5
  isplitl [H6]
  · iexists d6; isplitr; · ipureintro; exact trivial
    iexact H6
  isplitl [H7]
  · iexists d7; isplitr; · ipureintro; exact trivial
    iexact H7
  isplitl [H8]
  · iexists d8; isplitr; · ipureintro; exact trivial
    iexact H8
  iexists d9; isplitr; · ipureintro; exact trivial
  iexact H9

set_option backward.isDefEq.respectTransparency.types false in
/-- The launch: every final state has the inputs as launched and every counter at zero. -/
theorem run (m : (ℓ : Loc nD τ sig) → Buf (Elt F) ℓ) (ρ : Dev nD → PrngReg) :
    θ_run defs (onTc (τ := τ) (main (F := F))) (s₀ m ρ)
      (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => obligation m c) (hshare := fun c w => by unfold Pipeline.RDat.share; split <;> rfl)
    (howed := fun _ _ => rfl) (V := V m) (hmain := hmain m Variants.none) (hA := fun _ _ => by dsimp only [rdat]) (hΦ := fun _ _ => rfl)

/-- THE FRAME: the arguments end as launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c)⟩, h.2⟩) (run m ρ)

end Cert.Kernel.Hand

end
-- ==== Proof.KernelIdeal.Body.lean ====
/- What one run of the kernel's body leaves in the buffers it is handed, at any grid point, in terms of what it found. -/
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## What the body computes -/

/-- The exponent search's result for 64 rows of `u`. -/
def search (X : Vec F S64x5888 .bf16) : IVec S64x1 32 := k0_pay10 (k0_pay8 X) (k0_pay9 X) (-111#32)

/-- The codes of 64 rows of `u`. -/
def codes (X : Vec F S64x5888 .bf16) : Vec F S64x5888 .fp8e4m3 := k0_pay12 (k0_pay7 X) (k0_pay8 X) (search X) (-126#32)

/-- The scales of 64 rows of `u`. -/
def scales (X : Vec F S64x5888 .bf16) : Vec F S64x1 .f32 := k0_pay13 (k0_pay8 X) (search X) (-126#32)

/-- The whole of a block of `u`, of `w` and of `ws`. -/
abbrev all2 : Rect S64x5888 := Rect.unit (s := S64x5888) ![0, 0] S64x5888.size inb_S64x5888_S64x5888_0_0
abbrev all3 : Rect S512x5888 := Rect.unit (s := S512x5888) ![0, 0] S512x5888.size inb_S512x5888_S512x5888_0_0
abbrev all4 : Rect S1x512 := Rect.unit (s := S1x512) ![0, 0] S1x512.size inb_S1x512_S1x512_0_0

/-- The slot of codes a point that multiplies reads. -/
abbrev slot12 (i : grid0.Coords) (h : k0_cond2 i = 1#1) : Rect S2x1024x5888 :=
  Rect.unit (s := S2x1024x5888) (k0_off3 i) S1x1024x5888.size (k0_off3_inb i h)

/-- The slot of scales a point that multiplies reads. -/
abbrev slot13 (i : grid0.Coords) (h : k0_cond2 i = 1#1) : Rect S2x1024x128 :=
  Rect.unit (s := S2x1024x128) (k0_off4 i) S1x1024x128.size (k0_off4_inb i h)

/-- The scratch of codes after the point. -/
def grown12 (i : grid0.Coords) (X : Vec F S64x5888 .bf16) (S : Vec F S2x1024x5888 .fp8e4m3) : Vec F S2x1024x5888 .fp8e4m3 :=
  if k0_cond1 i = 1#1 then VecWindow.put S (k0_off1 i) S1x64x5888.size (k0_pay1 (codes (View.ld X all2))) else S

/-- The scratch of scales after the point. -/
def grown13 (i : grid0.Coords) (X : Vec F S64x5888 .bf16) (S : Vec F S2x1024x128 .f32) : Vec F S2x1024x128 .f32 :=
  if k0_cond1 i = 1#1 then VecWindow.put S (k0_off2 i) S1x64x128.size (k0_pay2 (scales (View.ld X all2))) else S

/-- Output window 3's buffer after the point: a product where this point stores one, else what it held. -/
def left5 (i : grid0.Coords) (w : Vec F S512x5888 .fp8e4m3) (ws : Vec F S1x512 .f32) (S : Vec F S2x1024x5888 .fp8e4m3)
    (T : Vec F S2x1024x128 .f32) (X : Vec F S1024x512 .bf16) : Vec F S1024x512 .bf16 :=
  if h : k0_cond2 i = 1#1 ∧ k0_cond3 i = 1#1 then k0_pay3 (View.ld S (slot12 i h.1)) (View.ld w all3) (View.ld T (slot13 i h.1)) (View.ld ws all4) else X

/-- Output window 4's buffer after the point: a product where this point stores one, else what it held. -/
def left6 (i : grid0.Coords) (w : Vec F S512x5888 .fp8e4m3) (ws : Vec F S1x512 .f32) (S : Vec F S2x1024x5888 .fp8e4m3)
    (T : Vec F S2x1024x128 .f32) (X : Vec F S1024x512 .bf16) : Vec F S1024x512 .bf16 :=
  if h : k0_cond2 i = 1#1 ∧ k0_cond4 i = 1#1 then k0_pay3 (View.ld S (slot12 i h.1)) (View.ld w all3) (View.ld T (slot13 i h.1)) (View.ld ws all4) else X

/-- Output window 5's buffer after the point: a product where this point stores one, else what it held. -/
def left7 (i : grid0.Coords) (w : Vec F S512x5888 .fp8e4m3) (ws : Vec F S1x512 .f32) (S : Vec F S2x1024x5888 .fp8e4m3)
    (T : Vec F S2x1024x128 .f32) (X : Vec F S1024x128 .bf16) : Vec F S1024x128 .bf16 :=
  if h : k0_cond2 i = 1#1 ∧ k0_cond5 i = 1#1 then k0_pay4 (View.ld S (slot12 i h.1)) (View.ld w all3) (View.ld T (slot13 i h.1)) (View.ld ws all4) else X

/-- Output window 6's buffer after the point: a product where this point stores one, else what it held. -/
def left8 (i : grid0.Coords) (w : Vec F S512x5888 .fp8e4m3) (ws : Vec F S1x512 .f32) (S : Vec F S2x1024x5888 .fp8e4m3)
    (T : Vec F S2x1024x128 .f32) (X : Vec F S1024x128 .bf16) : Vec F S1024x128 .bf16 :=
  if h : k0_cond2 i = 1#1 ∧ k0_cond5 i = 1#1 then k0_pay5 (View.ld S (slot12 i h.1)) (View.ld w all3) (View.ld T (slot13 i h.1)) (View.ld ws all4) else X

/-- Output window 7's buffer after the point: a product where this point stores one, else what it held. -/
def left9 (i : grid0.Coords) (w : Vec F S512x5888 .fp8e4m3) (ws : Vec F S1x512 .f32) (S : Vec F S2x1024x5888 .fp8e4m3)
    (T : Vec F S2x1024x128 .f32) (X : Vec F S1024x64 .bf16) : Vec F S1024x64 .bf16 :=
  if h : k0_cond2 i = 1#1 ∧ k0_cond5 i = 1#1 then k0_pay6 (View.ld S (slot12 i h.1)) (View.ld w all3) (View.ld T (slot13 i h.1)) (View.ld ws all4) else X

/-- The window of codes after the point. -/
def left10 (i : grid0.Coords) (X : Vec F S64x5888 .bf16) (Y : Vec F S64x5888 .fp8e4m3) : Vec F S64x5888 .fp8e4m3 :=
  if k0_cond1 i = 1#1 then codes (View.ld X all2) else Y

/-- The window of scales after the point. -/
def left11 (i : grid0.Coords) (X : Vec F S64x5888 .bf16) (Y : Vec F S64x1 .f32) : Vec F S64x1 .f32 :=
  if k0_cond1 i = 1#1 then scales (View.ld X all2) else Y

/-! ## Reads of a buffer after a store -/

/-- A memref's contents after a store on a rectangle: the old ones with the payload put there. -/
theorem read_write_put {sp : Space} {s : Shape} {e : EltTy} (m : Memref sig .tc sp s e) {off size : Fin s.rank → ℕ}
    (inb : ∀ a, off a + size a ≤ s.size a) (f : m.view.ty.Contents (Elt F)) (w : (Rect.unit off size inb).shape.Idx → Elt F e) :
    m.view.read (Elt F) (m.view.writes (Elt F) f [⟨Rect.unit off size inb, w⟩]) = VecWindow.put (m.view.read (Elt F) f) off size w :=
  View.read_writes_cons_put m.view f inb w [] rfl

set_option maxHeartbeats 16000000 in
/-- THE BODY, at any grid point, on whole buffers at any contents. -/
theorem body_leaves (c : Dev nD) (i : grid0.Coords) (arg2 : Memref sig .tc .vmem S64x5888 .bf16) (harg2 : arg2.IsWhole) (arg3 : Memref sig .tc .vmem S512x5888 .fp8e4m3) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x64 .bf16) (harg9 : arg9.IsWhole) (arg10 : Memref sig .tc .vmem S64x5888 .fp8e4m3) (harg10 : arg10.IsWhole) (arg11 : Memref sig .tc .vmem S64x1 .f32) (harg11 : arg11.IsWhole) (arg12 : Memref sig .tc .vmem S2x1024x5888 .fp8e4m3) (harg12 : arg12.IsWhole) (arg13 : Memref sig .tc .vmem S2x1024x128 .f32) (harg13 : arg13.IsWhole)
    (X2 : Vec F S64x5888 .bf16) (X3 : Vec F S512x5888 .fp8e4m3) (X4 : Vec F S1x512 .f32) (X5 : Vec F S1024x512 .bf16) (X6 : Vec F S1024x512 .bf16) (X7 : Vec F S1024x128 .bf16) (X8 : Vec F S1024x128 .bf16) (X9 : Vec F S1024x64 .bf16) (X10 : Vec F S64x5888 .fp8e4m3) (X11 : Vec F S64x1 .f32) (X12 : Vec F S2x1024x5888 .fp8e4m3) (X13 : Vec F S2x1024x128 .f32) (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) ∗ ((owns (c : Thread nD τ) arg2 fullShare X2 ∗ owns (c : Thread nD τ) arg3 fullShare X3 ∗ owns (c : Thread nD τ) arg4 fullShare X4 ∗ owns (c : Thread nD τ) arg5 fullShare (left5 i X3 X4 (grown12 i X2 X12) (grown13 i X2 X13) X5) ∗ owns (c : Thread nD τ) arg6 fullShare (left6 i X3 X4 (grown12 i X2 X12) (grown13 i X2 X13) X6) ∗ owns (c : Thread nD τ) arg7 fullShare (left7 i X3 X4 (grown12 i X2 X12) (grown13 i X2 X13) X7) ∗ owns (c : Thread nD τ) arg8 fullShare (left8 i X3 X4 (grown12 i X2 X12) (grown13 i X2 X13) X8) ∗ owns (c : Thread nD τ) arg9 fullShare (left9 i X3 X4 (grown12 i X2 X12) (grown13 i X2 X13) X9) ∗ owns (c : Thread nD τ) arg10 fullShare (left10 i X2 X10) ∗ owns (c : Thread nD τ) arg11 fullShare (left11 i X2 X11) ∗ owns (c : Thread nD τ) arg12 fullShare (grown12 i X2 X12) ∗ owns (c : Thread nD τ) arg13 fullShare (grown13 i X2 X13)) -∗ K ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [k0_part1_eq_skeleton, k0_part2_eq_skeleton, k0_part3_eq_skeleton]
  unfold owns
  obtain h2 | ⟨h2, hh⟩ : ¬(k0_cond2 i = 1#1) ∨ (k0_cond2 i = 1#1 ∧ (k0_cond3 i = 1#1 ∨ ¬(k0_cond3 i = 1#1))
      ∧ (k0_cond4 i = 1#1 ∨ ¬(k0_cond4 i = 1#1)) ∧ (k0_cond5 i = 1#1 ∨ ¬(k0_cond5 i = 1#1))) :=
    (em _).symm.imp_right fun h => ⟨h, em _, em _, em _⟩
  all_goals try obtain ⟨h3 | h3, h4 | h4, h5 | h5⟩ := hh
  all_goals by_cases h1 : k0_cond1 i = 1#1
  all_goals
    iintro ⟨⟨⟨%f2, %hf2, H2⟩ , ⟨%f3, %hf3, H3⟩ , ⟨%f4, %hf4, H4⟩ , ⟨%f5, %hf5, H5⟩ , ⟨%f6, %hf6, H6⟩ , ⟨%f7, %hf7, H7⟩ , ⟨%f8, %hf8, H8⟩ , ⟨%f9, %hf9, H9⟩ , ⟨%f10, %hf10, H10⟩ , ⟨%f11, %hf11, H11⟩ , ⟨%f12, %hf12, H12⟩ , ⟨%f13, %hf13, H13⟩⟩, Hk⟩
    subst hf2 hf3 hf4 hf5 hf6 hf7 hf8 hf9 hf10 hf11 hf12 hf13
    sl_exec (disch := first | sl_exact h1 | sl_exact h2 | sl_exact h3 | sl_exact h4 | sl_exact h5)
    sl_step
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; first
        | rw [left5, dif_neg (fun h => h2 h.1)]
        | rw [left5, dif_neg (fun h => h3 h.2)]
        | (refine (View.read_writes_full _ _ _ _ _).trans ?_
           rw [left5, dif_pos ⟨h2, h3⟩]
           first
             | (simp only [grown12, grown13, if_pos h1]; rw [← read_write_put arg12 (k0_off1_inb i h1), ← read_write_put arg13 (k0_off2_inb i h1)]; rfl)
             | (simp only [grown12, grown13, if_neg h1]; rfl))
    isplitl [H6]
    · iexists _; isplitr; swap; · iexact H6
      ipureintro; first
        | rw [left6, dif_neg (fun h => h2 h.1)]
        | rw [left6, dif_neg (fun h => h4 h.2)]
        | (refine (View.read_writes_full _ _ _ _ _).trans ?_
           rw [left6, dif_pos ⟨h2, h4⟩]
           first
             | (simp only [grown12, grown13, if_pos h1]; rw [← read_write_put arg12 (k0_off1_inb i h1), ← read_write_put arg13 (k0_off2_inb i h1)]; rfl)
             | (simp only [grown12, grown13, if_neg h1]; rfl))
    isplitl [H7]
    · iexists _; isplitr; swap; · iexact H7
      ipureintro; first
        | rw [left7, dif_neg (fun h => h2 h.1)]
        | rw [left7, dif_neg (fun h => h5 h.2)]
        | (refine (View.read_writes_full _ _ _ _ _).trans ?_
           rw [left7, dif_pos ⟨h2, h5⟩]
           first
             | (simp only [grown12, grown13, if_pos h1]; rw [← read_write_put arg12 (k0_off1_inb i h1), ← read_write_put arg13 (k0_off2_inb i h1)]; rfl)
             | (simp only [grown12, grown13, if_neg h1]; rfl))
    isplitl [H8]
    · iexists _; isplitr; swap; · iexact H8
      ipureintro; first
        | rw [left8, dif_neg (fun h => h2 h.1)]
        | rw [left8, dif_neg (fun h => h5 h.2)]
        | (refine (View.read_writes_full _ _ _ _ _).trans ?_
           rw [left8, dif_pos ⟨h2, h5⟩]
           first
             | (simp only [grown12, grown13, if_pos h1]; rw [← read_write_put arg12 (k0_off1_inb i h1), ← read_write_put arg13 (k0_off2_inb i h1)]; rfl)
             | (simp only [grown12, grown13, if_neg h1]; rfl))
    isplitl [H9]
    · iexists _; isplitr; swap; · iexact H9
      ipureintro; first
        | rw [left9, dif_neg (fun h => h2 h.1)]
        | rw [left9, dif_neg (fun h => h5 h.2)]
        | (refine (View.read_writes_full _ _ _ _ _).trans ?_
           rw [left9, dif_pos ⟨h2, h5⟩]
           first
             | (simp only [grown12, grown13, if_pos h1]; rw [← read_write_put arg12 (k0_off1_inb i h1), ← read_write_put arg13 (k0_off2_inb i h1)]; rfl)
             | (simp only [grown12, grown13, if_neg h1]; rfl))
    isplitl [H10]
    · iexists _; isplitr; swap; · iexact H10
      ipureintro; first
        | rw [left10, if_neg h1]
        | (refine (View.read_writes_full _ _ _ _ _).trans ?_
           rw [left10, if_pos h1]; rfl)
    isplitl [H11]
    · iexists _; isplitr; swap; · iexact H11
      ipureintro; first
        | rw [left11, if_neg h1]
        | (refine (View.read_writes_full _ _ _ _ _).trans ?_
           rw [left11, if_pos h1]; rfl)
    isplitl [H12]
    · iexists _; isplitr; swap; · iexact H12
      ipureintro; first
        | rw [grown12, if_neg h1]
        | (exact (read_write_put arg12 (k0_off1_inb i h1) _ _).trans (by rw [grown12, if_pos h1]; rfl))
    iexists _; isplitr; swap; · iexact H13
    ipureintro; first
        | rw [grown13, if_neg h1]
        | (exact (read_write_put arg13 (k0_off2_inb i h1) _ _).trans (by rw [grown13, if_pos h1]; rfl))

end Cert.KernelIdeal.Hand

end
-- ==== Proof.KernelIdeal.Schedule.lean ====
/- The kernel's schedule in closed form: which points quantise, which multiply and into which result, and at which points
   each output window keeps its buffer. Point `t` is row group `t / 17`, step `t % 17`. -/
module

public import proofs.«01_k».proof.Proof.Gen.KernelIdeal.Points

@[expose] public section

set_option maxRecDepth 16384

noncomputable section

namespace Cert.KernelIdeal.Hand

open Idealize.ShloMosaic Idealize.ShloMosaic.TcCoe
open Cert.KernelIdeal.Gen

theorem points_lt (t : Fin cfg0.N) : t.val < 119 := t.isLt

/-- The coordinates of point `t`. -/
theorem coords_val : ∀ t : Fin grid0.N, (grid0.coords t 0).val = t.val / 17 ∧ (grid0.coords t 1).val = t.val % 17 := by decide +kernel

/-- The points that quantise a block of rows. -/
theorem cond1_iff : ∀ t : Fin grid0.N, k0_cond1 (grid0.coords t) = 1#1 ↔ t.val / 17 < 6 ∧ t.val % 17 < 16 := by decide +kernel
/-- The points that multiply. -/
theorem cond2_iff : ∀ t : Fin grid0.N, k0_cond2 (grid0.coords t) = 1#1 ↔ 17 ≤ t.val := by decide +kernel
/-- The points whose product goes to the first result. -/
theorem cond3_iff : ∀ t : Fin grid0.N, k0_cond3 (grid0.coords t) = 1#1 ↔ t.val % 17 < 8 := by decide +kernel
/-- The points whose product goes to the second result. -/
theorem cond4_iff : ∀ t : Fin grid0.N, k0_cond4 (grid0.coords t) = 1#1 ↔ 8 ≤ t.val % 17 ∧ t.val % 17 < 16 := by decide +kernel
/-- The points whose product goes to the last three results. -/
theorem cond5_iff : ∀ t : Fin grid0.N, k0_cond5 (grid0.coords t) = 1#1 ↔ t.val % 17 = 16 := by decide +kernel

/-- The point before a point that multiplies but not into the first result does not write the first result back. -/
theorem kept3 : ∀ t : Fin grid0.N, 17 ≤ t.val → 8 ≤ t.val % 17 →
    (cfg0.win 3).flush ⟨t.val - 1, Nat.lt_of_le_of_lt (Nat.sub_le _ _) t.isLt⟩ = false := by decide +kernel
/-- The same for the second result. -/
theorem kept4 : ∀ t : Fin grid0.N, 17 ≤ t.val → t.val % 17 = 16 →
    (cfg0.win 4).flush ⟨t.val - 1, Nat.lt_of_le_of_lt (Nat.sub_le _ _) t.isLt⟩ = false := by decide +kernel
/-- The point before a point that does not quantise does not write codes or scales back. -/
theorem kept8 : ∀ t : Fin grid0.N, ¬(t.val / 17 < 6 ∧ t.val % 17 < 16) →
    (cfg0.win 8).flush ⟨t.val - 1, Nat.lt_of_le_of_lt (Nat.sub_le _ _) t.isLt⟩ = false := by decide +kernel
theorem kept9 : ∀ t : Fin grid0.N, ¬(t.val / 17 < 6 ∧ t.val % 17 < 16) →
    (cfg0.win 9).flush ⟨t.val - 1, Nat.lt_of_le_of_lt (Nat.sub_le _ _) t.isLt⟩ = false := by decide +kernel

/-- The clipping of an input window depends on its block index alone. -/
theorem clip0 : ∀ t t' : Fin cfg0.N, (cfg0.win 0).index t = (cfg0.win 0).index t' →
    (cfg0.win 0).clip (cfg0.grid.coords t) = (cfg0.win 0).clip (cfg0.grid.coords t') := fun _ _ _ => rfl
theorem clip1 : ∀ t t' : Fin cfg0.N, (cfg0.win 1).index t = (cfg0.win 1).index t' →
    (cfg0.win 1).clip (cfg0.grid.coords t) = (cfg0.win 1).clip (cfg0.grid.coords t') := by decide +kernel
theorem clip2 : ∀ t t' : Fin cfg0.N, (cfg0.win 2).index t = (cfg0.win 2).index t' →
    (cfg0.win 2).clip (cfg0.grid.coords t) = (cfg0.win 2).clip (cfg0.grid.coords t') := by decide +kernel

end Cert.KernelIdeal.Hand

end
-- ==== Proof.KernelIdeal.TwoSlots.lean ====
/- A scratch of two slots of 1024 rows, filled 64 rows at a point: what it holds before each point. Row group `i` is
   filled into slot `i % 2` by the points `17 i … 17 i + 15`, one block of 64 rows each, and read from there by the
   points `17 (i + 1) … 17 (i + 1) + 16`, which fill the other slot meanwhile. Nothing here depends on what is filled in:
   `G b` is the 64 rows of block `b`. -/
module

public import Idealize.ShloMosaic.Lib.VecWindow
public import Idealize.ShloMosaic.Lib.ValueIdxCore
public import Idealize.ShloMosaic.Lib.Pointwise.Index

@[expose] public section

namespace Cert.TwoSlots

open Idealize.ShloMosaic

variable {α : Type} {n : ℕ} (G : ℕ → (⟨3, ![1, 64, n]⟩ : Shape).Idx → α)

/-- Row `r` (of 1024) of row group `i`, at column `k`. -/
def row (i : ℕ) (r : ℕ) (k : Fin n) : α := G (16 * i + r / 64) (ix3 (0 : Fin 1) ⟨r % 64, Nat.mod_lt _ (by norm_num)⟩ k)

/-- The slot being filled holds the rows filled so far. -/
def Filled (t : ℕ) (S : (⟨3, ![2, 1024, n]⟩ : Shape).Idx → α) : Prop :=
  ∀ (s : Fin 2) (r : Fin 1024) (k : Fin n), t / 17 < 6 → s.val = t / 17 % 2 → r.val < 64 * (t % 17) → S (ix3 s r k) = row G (t / 17) r.val k

/-- The other slot holds the whole row group before. -/
def Ready (t : ℕ) (S : (⟨3, ![2, 1024, n]⟩ : Shape).Idx → α) : Prop :=
  ∀ (s : Fin 2) (r : Fin 1024) (k : Fin n), 17 ≤ t → t < 119 → s.val = (t / 17 + 1) % 2 → S (ix3 s r k) = row G (t / 17 - 1) r.val k

/-- What point `t` does to the scratch: put its block in the slot being filled, if it quantises. -/
def Step (t : ℕ) (S S' : (⟨3, ![2, 1024, n]⟩ : Shape).Idx → α) : Prop :=
  (t / 17 < 6 ∧ t % 17 < 16 → S' = VecWindow.put S ![t / 17 % 2, 64 * (t % 17), 0] ![1, 64, n] (G (16 * (t / 17) + t % 17)))
    ∧ (¬(t / 17 < 6 ∧ t % 17 < 16) → S' = S)

variable {G}

theorem ix3_mem_iff {off : Fin 3 → ℕ} (s : Fin 2) (r : Fin 1024) (k : Fin n) :
    (∀ a : Fin 3, off a ≤ (ix3 s r k a).val ∧ (ix3 s r k a).val < off a + (![1, 64, n] : Fin 3 → ℕ) a)
      ↔ (off 0 ≤ s.val ∧ s.val < off 0 + 1) ∧ (off 1 ≤ r.val ∧ r.val < off 1 + 64) ∧ (off 2 ≤ k.val ∧ k.val < off 2 + n) := by
  rw [Fin.forall_fin_succ, Fin.forall_fin_succ, Fin.forall_fin_one]; rfl

/-- A put of 64 rows, read off them. -/
theorem put_of_not {S : (⟨3, ![2, 1024, n]⟩ : Shape).Idx → α} {a b : ℕ} {w : (⟨3, ![1, 64, n]⟩ : Shape).Idx → α} (s : Fin 2) (r : Fin 1024) (k : Fin n)
    (h : ¬(s.val = a ∧ b ≤ r.val ∧ r.val < b + 64)) : VecWindow.put S ![a, b, 0] ![1, 64, n] w (ix3 s r k) = S (ix3 s r k) := by
  refine dif_neg fun h' => h ?_
  have := (ix3_mem_iff s r k).1 h'
  simp only [Matrix.cons_val_zero, Matrix.cons_val_one] at this
  omega

/-- A put of 64 rows, read on them. -/
theorem put_of_mem {S : (⟨3, ![2, 1024, n]⟩ : Shape).Idx → α} {a b : ℕ} {w : (⟨3, ![1, 64, n]⟩ : Shape).Idx → α} (s : Fin 2) (r : Fin 1024) (k : Fin n)
    (hs : s.val = a) (hb : b ≤ r.val) (hr : r.val < b + 64) :
    VecWindow.put S ![a, b, 0] ![1, 64, n] w (ix3 s r k) = w (ix3 (0 : Fin 1) ⟨r.val - b, by omega⟩ k) := by
  have h' : ∀ x : Fin 3, (![a, b, 0] : Fin 3 → ℕ) x ≤ (ix3 s r k x).val ∧ (ix3 s r k x).val < (![a, b, 0] : Fin 3 → ℕ) x + (![1, 64, n] : Fin 3 → ℕ) x := by
    rw [ix3_mem_iff]
    have := k.isLt
    simp only [Matrix.cons_val_zero, Matrix.cons_val_one, Matrix.cons_val]
    omega
  refine (dif_pos h').trans (congrArg w (funext fun x => Fin.ext ?_))
  match x with
  | ⟨0, _⟩ => show s.val - a = 0; omega
  | ⟨1, _⟩ => rfl
  | ⟨2, _⟩ => show k.val - 0 = k.val; omega

/-- The ready slot is not touched. -/
theorem Ready.step {t : ℕ} {S S' : (⟨3, ![2, 1024, n]⟩ : Shape).Idx → α} (h : Ready G t S) (hs : Step G t S S') : Ready G t S' := by
  intro s r k h0 h1 h2
  by_cases hq : t / 17 < 6 ∧ t % 17 < 16
  · rw [hs.1 hq, put_of_not s r k (by omega)]; exact h s r k h0 h1 h2
  · rw [hs.2 hq]; exact h s r k h0 h1 h2

/-- After point `t` the slot being filled holds 64 rows more. -/
theorem Filled.step {t : ℕ} {S S' : (⟨3, ![2, 1024, n]⟩ : Shape).Idx → α} (h : Filled G t S) (hs : Step G t S S')
    (s : Fin 2) (r : Fin 1024) (k : Fin n) (h6 : t / 17 < 6) (h0 : s.val = t / 17 % 2) (h1 : r.val < 64 * (t % 17 + 1)) :
    S' (ix3 s r k) = row G (t / 17) r.val k := by
  by_cases hq : t / 17 < 6 ∧ t % 17 < 16
  · rw [hs.1 hq]
    by_cases hr : r.val < 64 * (t % 17)
    · rw [put_of_not s r k (by omega)]; exact h s r k h6 h0 hr
    · rw [put_of_mem s r k h0 (by omega) (by omega)]
      unfold row
      rw [show r.val / 64 = t % 17 by omega]
      congr 2
      exact Fin.ext (show r.val - 64 * (t % 17) = r.val % 64 by omega)
  · rw [hs.2 hq]; exact h s r k h6 h0 (by have := r.isLt; omega)

/-- Before the next point the slot being filled holds the rows filled so far; -/
theorem Filled.next {t : ℕ} {S S' : (⟨3, ![2, 1024, n]⟩ : Shape).Idx → α} (h : Filled G t S) (hs : Step G t S S') : Filled G (t + 1) S' := by
  intro s r k h6 h0 h1
  rcases Nat.lt_or_ge (t % 17) 16 with hj | hj
  · have e : (t + 1) / 17 = t / 17 := by omega
    rw [e] at h6 h0 ⊢
    exact h.step hs s r k h6 h0 (by omega)
  · omega

/-- and the other slot the whole row group before. -/
theorem Ready.next {t : ℕ} {S S' : (⟨3, ![2, 1024, n]⟩ : Shape).Idx → α} (h : Ready G t S) (hF : Filled G t S) (hs : Step G t S S') :
    Ready G (t + 1) S' := by
  intro s r k h0 h1 h2
  rcases Nat.lt_or_ge (t % 17) 16 with hj | hj
  · have e : (t + 1) / 17 = t / 17 := by omega
    rw [e] at h2 ⊢
    exact h.step hs s r k (by omega) (by omega) h2
  · have e : (t + 1) / 17 - 1 = t / 17 := by omega
    rw [e]
    exact hF.step hs s r k (by omega) (by omega) (by have := r.isLt; omega)

end Cert.TwoSlots

end
-- ==== Proof.KernelIdeal.Run.lean ====
/- The kernel's proof data: what each staging buffer and the two-slot scratch hold around each grid point, the body's
   obligation at every point, and the run. -/
module

public import proofs.«01_k».proof.Proof.KernelIdeal.Body
public import proofs.«01_k».proof.Proof.KernelIdeal.Schedule
public import proofs.«01_k».proof.Proof.KernelIdeal.TwoSlots
public import Idealize.ShloMosaic.Lib.Pipeline.Value
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.TwoSlots

variable {F : FTy → Type} [FloatOps F]

local notation "𝕄" => MT nD τ sig Unit (Elt F) ℕ (UR sig nD τ) ℕ

variable (m : (ℓ : Loc nD τ sig) → Buf (Elt F) ℓ) (c : Dev nD)

/-! ## What is computed where -/

/-- The point that quantises block `b` of 64 rows. -/
def ptOf (b : ℕ) : Fin cfg0.N := ⟨min (17 * (b / 16) + b % 16) 118, Nat.lt_of_le_of_lt (Nat.min_le_right _ _) (by decide)⟩

/-- Block `b` of 64 rows of `u`. -/
def blkU (b : ℕ) : Vec F S64x5888 .bf16 := iblk m c 0 (ptOf b)

/-- The codes of block `b`, as the scratch takes them; -/
def rowsC (b : ℕ) : Vec F S1x64x5888 .fp8e4m3 := k0_pay1 (codes (blkU m c b))
/-- the scales. -/
def rowsS (b : ℕ) : Vec F S1x64x128 .f32 := k0_pay2 (scales (blkU m c b))

/-- The codes of row group `g`, as a product reads them; -/
def groupC (g : ℕ) : Vec F S1x1024x5888 .fp8e4m3 := fun z => row (n := 5888) (rowsC m c) g (z 1).val (z 2)
/-- the scales. -/
def groupS (g : ℕ) : Vec F S1x1024x128 .f32 := fun z => row (n := 128) (rowsS m c) g (z 1).val (z 2)

/-- The weights' window at point `t`, fetched over `d`; -/
def wAt (t : Fin cfg0.N) (d : Vec F S512x5888 .fp8e4m3) : Vec F S512x5888 .fp8e4m3 := (cfg0.win 1).fill (cfg0.grid.coords t) d (iblk m c 1 t)
/-- their scales'. -/
def wsAt (t : Fin cfg0.N) (d : Vec F S1x512 .f32) : Vec F S1x512 .f32 := (cfg0.win 2).fill (cfg0.grid.coords t) d (iblk m c 2 t)

/-- The point whose product window 3's buffer holds after point `t`; -/
def at3 (t : Fin cfg0.N) : Fin cfg0.N := ⟨17 * (t.val / 17) + min (t.val % 17) 7, by have := points_lt t; show _ < 119; omega⟩
/-- window 4's, from its first step on. -/
def at4 (t : Fin cfg0.N) : Fin cfg0.N := ⟨17 * (t.val / 17) + min (t.val % 17) 15, by have := points_lt t; show _ < 119; omega⟩

/-- The block of rows whose codes and scales windows 8 and 9 hold after point `t`. -/
def at8 (t : Fin cfg0.N) : ℕ := min (16 * (t.val / 17) + min (t.val % 17) 15) 95

/-! ## The proof data -/

/-- What the body leaves in each window's buffer: the inputs as found; windows 3 and 4 the product of the last point that
    stored one there; windows 5 to 7 that of this point, at a row group's last step; windows 8 and 9 the last block's codes
    and scales. Of a clipped fetch of the weights or their scales the tail is anything. -/
def rdat : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => 17 ≤ t.val → ∃ d e, X = k0_pay3 (groupC m c (t.val / 17 - 1)) (wAt m c (at3 t) d) (groupS m c (t.val / 17 - 1)) (wsAt m c (at3 t) e)
    | ⟨4, _⟩ => fun _ X => 17 ≤ t.val → 8 ≤ t.val % 17 → ∃ d e, X = k0_pay3 (groupC m c (t.val / 17 - 1)) (wAt m c (at4 t) d) (groupS m c (t.val / 17 - 1)) (wsAt m c (at4 t) e)
    | ⟨5, _⟩ => fun _ X => 17 ≤ t.val → t.val % 17 = 16 → ∃ d e, X = k0_pay4 (groupC m c (t.val / 17 - 1)) (wAt m c t d) (groupS m c (t.val / 17 - 1)) (wsAt m c t e)
    | ⟨6, _⟩ => fun _ X => 17 ≤ t.val → t.val % 17 = 16 → ∃ d e, X = k0_pay5 (groupC m c (t.val / 17 - 1)) (wAt m c t d) (groupS m c (t.val / 17 - 1)) (wsAt m c t e)
    | ⟨7, _⟩ => fun _ X => 17 ≤ t.val → t.val % 17 = 16 → ∃ d e, X = k0_pay6 (groupC m c (t.val / 17 - 1)) (wAt m c t d) (groupS m c (t.val / 17 - 1)) (wsAt m c t e)
    | ⟨8, _⟩ => fun _ X => X = codes (blkU m c (at8 t))
    | ⟨9, _⟩ => fun _ X => X = scales (blkU m c (at8 t))
    | ⟨_ + 10, h⟩ => absurd h (Nat.not_lt.2 (Nat.le_add_left _ _))
  Φ t := iprop((∃ S, ⌜Filled (rowsC m c) t.val S ∧ Ready (rowsC m c) t.val S⌝ ∗ owns (c : Thread nD τ) (Memref.whole cc0_scratch0) fullShare S)
    ∗ (∃ S, ⌜Filled (rowsS m c) t.val S ∧ Ready (rowsS m c) t.val S⌝ ∗ owns (c : Thread nD τ) (Memref.whole cc0_scratch1) fullShare S)
    ∗ (∃ r, prngReg c r))
  q _ := fullShare
  owed _ := 0

/-- What the data keeps between points, spelled out. -/
theorem Φ_eq (t : Fin (cfg0.N + 1)) : (rdat m c).Φ t
    = iprop((∃ S, ⌜Filled (rowsC m c) t.val S ∧ Ready (rowsC m c) t.val S⌝ ∗ owns (c : Thread nD τ) (Memref.whole cc0_scratch0) fullShare S)
      ∗ (∃ S, ⌜Filled (rowsS m c) t.val S ∧ Ready (rowsS m c) t.val S⌝ ∗ owns (c : Thread nD τ) (Memref.whole cc0_scratch1) fullShare S)
      ∗ (∃ r, prngReg c r)) := rfl

/-! ## What the body finds -/

theorem finds0 (t : Fin cfg0.N) (Y) (h : (rdat m c).Finds 0 t Y) : Y = iblk m c 0 t := by
  obtain ⟨d, hd⟩ := (rdat m c).finds_in_eq_fetched 0 rfl clip0 (fun _ _ _ h => h) t Y h
  exact hd.trans rfl

theorem finds1 (t : Fin cfg0.N) (Y) (h : (rdat m c).Finds 1 t Y) : ∃ d, Y = wAt m c t d :=
  (rdat m c).finds_in_eq_fetched 1 rfl clip1 (fun _ _ _ h => h) t Y h

theorem finds2 (t : Fin cfg0.N) (Y) (h : (rdat m c).Finds 2 t Y) : ∃ d, Y = wsAt m c t d :=
  (rdat m c).finds_in_eq_fetched 2 rfl clip2 (fun _ _ _ h => h) t Y h

/-- The point before. -/
abbrev before (t : Fin cfg0.N) : Fin cfg0.N := ⟨t.val - 1, Nat.lt_of_le_of_lt (Nat.sub_le _ _) t.isLt⟩

/-- An output window's buffer not written back at the point before holds what was left there. -/
theorem finds_out (w : Fin cfg0.W) (hw : ∀ t, (cfg0.win w).fetch t = false) (t : Fin cfg0.N) (h0 : t.val ≠ 0)
    (hf : (cfg0.win w).flush (before t) = false) (Y) (h : (rdat m c).Finds w t Y) : ∃ Y', (rdat m c).after w (before t) Y' Y := by
  rcases ((rdat m c).finds_of_pos (hw t) h0 Y).1 h with h | ⟨Y', -, h⟩
  · rw [hf] at h; exact absurd h Bool.false_ne_true
  · exact ⟨Y', h⟩

/-! ## What the body leaves -/

theorem ld_all2 (X : Vec F S64x5888 .bf16) : View.ld X all2 = X := View.ld_unit_zero (by decide) _ X
theorem ld_all3 (X : Vec F S512x5888 .fp8e4m3) : View.ld X all3 = X := View.ld_unit_zero (by decide) _ X
theorem ld_all4 (X : Vec F S1x512 .f32) : View.ld X all4 = X := View.ld_unit_zero (by decide) _ X

theorem ptOf_eq (t : Fin cfg0.N) (h : t.val / 17 < 6 ∧ t.val % 17 < 16) : ptOf (16 * (t.val / 17) + t.val % 17) = t :=
  Fin.ext (by show min _ _ = _; omega)

/-- The scratch of codes takes its step; -/
theorem step12 (t : Fin cfg0.N) (S : Vec F S2x1024x5888 .fp8e4m3) : Step (rowsC m c) t.val S (grown12 (grid0.coords t) (iblk m c 0 t) S) := by
  refine ⟨fun h => ?_, fun h => if_neg (mt (cond1_iff t).1 h)⟩
  rw [grown12, if_pos ((cond1_iff t).2 h), ld_all2, k0_off1_eq, (coords_val t).1, (coords_val t).2]
  unfold rowsC blkU
  rw [ptOf_eq t h]

/-- so does the scratch of scales. -/
theorem step13 (t : Fin cfg0.N) (S : Vec F S2x1024x128 .f32) : Step (rowsS m c) t.val S (grown13 (grid0.coords t) (iblk m c 0 t) S) := by
  refine ⟨fun h => ?_, fun h => if_neg (mt (cond1_iff t).1 h)⟩
  rw [grown13, if_pos ((cond1_iff t).2 h), ld_all2, k0_off2_eq, (coords_val t).1, (coords_val t).2]
  unfold rowsS blkU
  rw [ptOf_eq t h]

/-- A point that multiplies reads the row group before. -/
theorem ld_slot12 (t : Fin cfg0.N) (h : k0_cond2 (grid0.coords t) = 1#1) (S : Vec F S2x1024x5888 .fp8e4m3) (hS : Ready (rowsC m c) t.val S) :
    View.ld S (slot12 (grid0.coords t) h) = groupC m c (t.val / 17 - 1) := by
  funext z
  have e : (slot12 (grid0.coords t) h).idx z = ix3 (n0 := 2) (n1 := 1024) (n2 := 5888) ⟨(t.val / 17 + 1) % 2, Nat.mod_lt _ (by norm_num)⟩ (z 1) (z 2) := by
    funext a; apply Fin.ext
    show k0_off3 (grid0.coords t) a + 1 * (z a).val = _
    rw [k0_off3_eq, (coords_val t).1]
    match a with
    | ⟨0, _⟩ => show (t.val / 17 + 1) % 2 + 1 * (z 0).val = (t.val / 17 + 1) % 2; have : (z 0).val < 1 := (z 0).isLt; omega
    | ⟨1, _⟩ => show 0 + 1 * (z 1).val = (z 1).val; omega
    | ⟨2, _⟩ => show 0 + 1 * (z 2).val = (z 2).val; omega
  show S _ = _
  rw [e]
  exact hS _ _ _ ((cond2_iff t).1 h) (points_lt t) rfl

theorem ld_slot13 (t : Fin cfg0.N) (h : k0_cond2 (grid0.coords t) = 1#1) (S : Vec F S2x1024x128 .f32) (hS : Ready (rowsS m c) t.val S) :
    View.ld S (slot13 (grid0.coords t) h) = groupS m c (t.val / 17 - 1) := by
  funext z
  have e : (slot13 (grid0.coords t) h).idx z = ix3 (n0 := 2) (n1 := 1024) (n2 := 128) ⟨(t.val / 17 + 1) % 2, Nat.mod_lt _ (by norm_num)⟩ (z 1) (z 2) := by
    funext a; apply Fin.ext
    show k0_off4 (grid0.coords t) a + 1 * (z a).val = _
    rw [k0_off4_eq, (coords_val t).1]
    match a with
    | ⟨0, _⟩ => show (t.val / 17 + 1) % 2 + 1 * (z 0).val = (t.val / 17 + 1) % 2; have : (z 0).val < 1 := (z 0).isLt; omega
    | ⟨1, _⟩ => show 0 + 1 * (z 1).val = (z 1).val; omega
    | ⟨2, _⟩ => show 0 + 1 * (z 2).val = (z 2).val; omega
  show S _ = _
  rw [e]
  exact hS _ _ _ ((cond2_iff t).1 h) (points_lt t) rfl

theorem leaves5 (t : Fin cfg0.N) (Y) (h : (rdat m c).Finds 3 t Y) (d e) (S T) (hS : Ready (rowsC m c) t.val S) (hT : Ready (rowsS m c) t.val T) :
    (rdat m c).after 3 t Y (left5 (grid0.coords t) (wAt m c t d) (wsAt m c t e) S T Y) := by
  intro h17
  unfold left5
  by_cases hc : k0_cond3 (grid0.coords t) = 1#1
  · rw [dif_pos ⟨(cond2_iff t).2 h17, hc⟩, ld_all3, ld_all4, ld_slot12 m c t _ S hS, ld_slot13 m c t _ T hT]
    have e' : at3 t = t := Fin.ext (by have := (cond3_iff t).1 hc; show 17 * (t.val / 17) + min _ _ = _; omega)
    rw [e']; exact ⟨d, e, rfl⟩
  · rw [dif_neg (fun h => hc h.2)]
    have hj' := mt (cond3_iff t).2 hc
    have := points_lt t
    obtain ⟨Y', hY⟩ := finds_out m c 3 (fun _ => rfl) t (by omega) (kept3 t h17 (by omega)) Y h
    have e1 : (before t).val / 17 = t.val / 17 := by show (t.val - 1) / 17 = _; omega
    have e2 : at3 (before t) = at3 t := Fin.ext (by show 17 * ((t.val - 1) / 17) + min ((t.val - 1) % 17) _ = 17 * (t.val / 17) + min (t.val % 17) _; omega)
    have := hY (show 17 ≤ t.val - 1 by omega)
    rw [e1, e2] at this
    exact this

theorem leaves6 (t : Fin cfg0.N) (Y) (h : (rdat m c).Finds 4 t Y) (d e) (S T) (hS : Ready (rowsC m c) t.val S) (hT : Ready (rowsS m c) t.val T) :
    (rdat m c).after 4 t Y (left6 (grid0.coords t) (wAt m c t d) (wsAt m c t e) S T Y) := by
  intro h17 hj
  unfold left6
  by_cases hc : k0_cond4 (grid0.coords t) = 1#1
  · rw [dif_pos ⟨(cond2_iff t).2 h17, hc⟩, ld_all3, ld_all4, ld_slot12 m c t _ S hS, ld_slot13 m c t _ T hT]
    have e' : at4 t = t := Fin.ext (by have := (cond4_iff t).1 hc; show 17 * (t.val / 17) + min _ _ = _; omega)
    rw [e']; exact ⟨d, e, rfl⟩
  · rw [dif_neg (fun h => hc h.2)]
    have hj' := mt (cond4_iff t).2 hc
    have := points_lt t
    obtain ⟨Y', hY⟩ := finds_out m c 4 (fun _ => rfl) t (by omega) (kept4 t h17 (by omega)) Y h
    have e1 : (before t).val / 17 = t.val / 17 := by show (t.val - 1) / 17 = _; omega
    have e2 : at4 (before t) = at4 t := Fin.ext (by show 17 * ((t.val - 1) / 17) + min ((t.val - 1) % 17) _ = 17 * (t.val / 17) + min (t.val % 17) _; omega)
    have := hY (show 17 ≤ t.val - 1 by omega) (show 8 ≤ (t.val - 1) % 17 by omega)
    rw [e1, e2] at this
    exact this

theorem leaves7 (t : Fin cfg0.N) (Y) (d e) (S T) (hS : Ready (rowsC m c) t.val S) (hT : Ready (rowsS m c) t.val T) :
    (rdat m c).after 5 t Y (left7 (grid0.coords t) (wAt m c t d) (wsAt m c t e) S T Y) := by
  intro h17 hj
  unfold left7
  rw [dif_pos ⟨(cond2_iff t).2 h17, (cond5_iff t).2 hj⟩, ld_all3, ld_all4, ld_slot12 m c t _ S hS, ld_slot13 m c t _ T hT]
  exact ⟨d, e, rfl⟩

theorem leaves8 (t : Fin cfg0.N) (Y) (d e) (S T) (hS : Ready (rowsC m c) t.val S) (hT : Ready (rowsS m c) t.val T) :
    (rdat m c).after 6 t Y (left8 (grid0.coords t) (wAt m c t d) (wsAt m c t e) S T Y) := by
  intro h17 hj
  unfold left8
  rw [dif_pos ⟨(cond2_iff t).2 h17, (cond5_iff t).2 hj⟩, ld_all3, ld_all4, ld_slot12 m c t _ S hS, ld_slot13 m c t _ T hT]
  exact ⟨d, e, rfl⟩

theorem leaves9 (t : Fin cfg0.N) (Y) (d e) (S T) (hS : Ready (rowsC m c) t.val S) (hT : Ready (rowsS m c) t.val T) :
    (rdat m c).after 7 t Y (left9 (grid0.coords t) (wAt m c t d) (wsAt m c t e) S T Y) := by
  intro h17 hj
  unfold left9
  rw [dif_pos ⟨(cond2_iff t).2 h17, (cond5_iff t).2 hj⟩, ld_all3, ld_all4, ld_slot12 m c t _ S hS, ld_slot13 m c t _ T hT]
  exact ⟨d, e, rfl⟩

theorem leaves10 (t : Fin cfg0.N) (Y) (h : (rdat m c).Finds 8 t Y) :
    (rdat m c).after 8 t Y (left10 (grid0.coords t) (iblk m c 0 t) Y) := by
  show left10 _ _ _ = codes (blkU m c (at8 t))
  unfold left10
  have := points_lt t
  by_cases hc : t.val / 17 < 6 ∧ t.val % 17 < 16
  · rw [if_pos ((cond1_iff t).2 hc), ld_all2, show at8 t = 16 * (t.val / 17) + t.val % 17 by unfold at8; omega]
    unfold blkU; rw [ptOf_eq t hc]
  · rw [if_neg (mt (cond1_iff t).1 hc)]
    obtain ⟨Y', hY⟩ := finds_out m c 8 (fun _ => rfl) t (by omega) (kept8 t hc) Y h
    have e2 : at8 (before t) = at8 t := by
      unfold at8; show min (16 * ((t.val - 1) / 17) + min ((t.val - 1) % 17) _) _ = _; omega
    rw [← e2]; exact hY

theorem leaves11 (t : Fin cfg0.N) (Y) (h : (rdat m c).Finds 9 t Y) :
    (rdat m c).after 9 t Y (left11 (grid0.coords t) (iblk m c 0 t) Y) := by
  show left11 _ _ _ = scales (blkU m c (at8 t))
  unfold left11
  have := points_lt t
  by_cases hc : t.val / 17 < 6 ∧ t.val % 17 < 16
  · rw [if_pos ((cond1_iff t).2 hc), ld_all2, show at8 t = 16 * (t.val / 17) + t.val % 17 by unfold at8; omega]
    unfold blkU; rw [ptOf_eq t hc]
  · rw [if_neg (mt (cond1_iff t).1 hc)]
    obtain ⟨Y', hY⟩ := finds_out m c 9 (fun _ => rfl) t (by omega) (kept9 t hc) Y h
    have e2 : at8 (before t) = at8 t := by
      unfold at8; show min (16 * ((t.val - 1) / 17) + min ((t.val - 1) % 17) _) _ = _; omega
    rw [← e2]; exact hY

/-! ## The obligation and the run -/

/-- The body table's row at a point is the body on the staging buffers of that point. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- THE BODY OBLIGATION at every point, by `body_leaves`. -/
theorem obligation : (rdat m c).BodyObligation (defs₀ (F := F)) Variants.none () Set.univ := fun t Y hY => by
  have h0 := finds0 m c t _ (hY 0)
  obtain ⟨d, h1⟩ := finds1 m c t _ (hY 1)
  obtain ⟨e, h2⟩ := finds2 m c t _ (hY 2)
  rw [bigSep_W0, bigSep_W0, defs₀_row]
  rw [Φ_eq, Φ_eq]
  rw [show (rdat m c).owesAt () t.succ = (rdat m c).owesAt () t.castSucc from rfl]
  unfold bodyAt0
  rw [h0, h1, h2]
  iintro ⟨⟨⟨%S, %hS, HS0⟩, ⟨%T, %hT, HS1⟩, Hg⟩, Ho, H0, H1, H2, H3, H4, H5, H6, H7, H8, H9⟩
  have sC := step12 m c t S
  have sS := step13 m c t T
  have hRC := hS.2.step sC
  have hRS := hT.2.step sS
  iapply (body_leaves c (grid0.coords t) _ _ _ _ _ _ _ _ _ _ _ _ _ _ _ _ _ _ _ _ _ _ _ _
    (iblk m c 0 t) (wAt m c t d) (wsAt m c t e) (Y 3) (Y 4) (Y 5) (Y 6) (Y 7) (Y 8) (Y 9) S T _)
  isplitl [H0 H1 H2 H3 H4 H5 H6 H7 H8 H9 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  iintro ⟨H0, H1, H2, H3, H4, H5, H6, H7, H8, H9, HS0, HS1⟩
  isplitl [HS0 HS1 Hg]
  · isplitl [HS0]
    · iexists _; isplitr; swap; · iexact HS0
      ipureintro; exact ⟨hS.1.next sC, hS.2.next hS.1 sC⟩
    isplitl [HS1]
    · iexists _; isplitr; swap; · iexact HS1
      ipureintro; exact ⟨hT.1.next sS, hT.2.next hT.1 sS⟩
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact leaves5 m c t _ (hY 3) d e _ _ hRC hRS
  isplitl [H4]
  · iexists _; isplitr; swap; · iexact H4
    ipureintro; exact leaves6 m c t _ (hY 4) d e _ _ hRC hRS
  isplitl [H5]
  · iexists _; isplitr; swap; · iexact H5
    ipureintro; exact leaves7 m c t _ d e _ _ hRC hRS
  isplitl [H6]
  · iexists _; isplitr; swap; · iexact H6
    ipureintro; exact leaves8 m c t _ d e _ _ hRC hRS
  isplitl [H7]
  · iexists _; isplitr; swap; · iexact H7
    ipureintro; exact leaves9 m c t _ d e _ _ hRC hRS
  isplitl [H8]
  · iexists _; isplitr; swap; · iexact H8
    ipureintro; exact leaves10 m c t _ (hY 8)
  iexists _; isplitr; swap; · iexact H9
  ipureintro; exact leaves11 m c t _ (hY 9)

/-- What the class keeps between points, with the two scratch operands as buffers owned at some contents. -/
theorem kept_eq :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- At the first point the scratch may hold anything; -/
theorem enters : (Pipeline.ΦA spec0 c : sProp 𝕄) ⊢ (rdat m c).Φ 0 := by
  rw [kept_eq, Φ_eq]
  iintro ⟨⟨⟨%S, HS0⟩, ⟨%T, HS1⟩⟩, Hg⟩
  isplitl [HS0]
  · iexists S; isplitr; swap; · iexact HS0
    ipureintro
    exact ⟨fun s r k _ _ h => absurd h (by show ¬ r.val < 64 * (0 % 17); omega), fun s r k h => absurd h (by show ¬ 17 ≤ 0; omega)⟩
  isplitl [HS1]
  · iexists T; isplitr; swap; · iexact HS1
    ipureintro
    exact ⟨fun s r k _ _ h => absurd h (by show ¬ r.val < 64 * (0 % 17); omega), fun s r k h => absurd h (by show ¬ 17 ≤ 0; omega)⟩
  iexact Hg

/-- after the last one it is given back. -/
theorem exits : (rdat m c).Φ (Fin.last cfg0.N) ⊢ (Pipeline.ΦA spec0 c : sProp 𝕄) := by
  rw [kept_eq, Φ_eq]
  iintro ⟨⟨%S, -, HS0⟩, ⟨%T, -, HS1⟩, Hg⟩
  isplitl [HS0 HS1]
  · isplitl [HS0]
    · iexists S; iexact HS0
    iexists T; iexact HS1
  iexact Hg

set_option backward.isDefEq.respectTransparency.types false in
/-- THE LAUNCH: every array ends in the data's relation to what it held, every counter at zero. -/
theorem run (ρ : Dev nD → PrngReg) :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => obligation m c) (hshare := fun c w => by unfold Pipeline.RDat.share; split <;> rfl)
    (howed := fun _ _ => rfl) (V := V m) (hmain := hmain m Variants.none) (hA := fun _ _ => by dsimp only [rdat])
    (hin := fun c => enters m c) (hout := fun c => exits m c)

/-- THE FRAME: the arguments end as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c)⟩, h.2⟩) (run m ρ)

end Cert.KernelIdeal.Hand

end
-- ==== Proof.Exponent.lean ====
/- A row's power-of-two scale, twice: from the biased exponent found bit by bit by comparing with powers of two, and from
   the floor of the base-two logarithm. On every real from 0 up to 2^126 the two agree. -/
module

public import Idealize.ShloMosaic.PureOps.Ideal
public import Idealize.ShloMosaic.PureOps.Ideal.Laws
public import Mathlib.Analysis.SpecialFunctions.Pow.Real
public import Mathlib.Tactic.Positivity
public import Mathlib.Tactic.GCongr
public import Mathlib.Tactic.FieldSimp

@[expose] public section

noncomputable section

namespace Cert.Exponent

open Idealize.ShloMosaic

/-! ## The two exponents -/

/-- The float whose biased exponent field is the word `w`, its sign and fraction zero. -/
def field (w : BitVec 32) : EReal := Ideal.ofBits .f32 (IntOp.shli .vector w 23#32)

/-- The float `2^e`, of the word `e`. -/
def power (e : BitVec 32) : EReal := field (e + 127#32)

/-- One step of the search: the bit is taken if `r` is at least the power of two with it. -/
def step (r : EReal) (bit off b : BitVec 32) : BitVec 32 := Scalar.select (Ideal.cmp .oge r (power (b + off))) (b + bit) b

/-- The search's first three steps, from 0; -/
def search3 (r : EReal) : BitVec 32 := step r 32#32 4294967201#32 (step r 64#32 4294967233#32 (step r 128#32 1#32 0#32))
/-- its next four, from `b`; -/
def search4 (r : EReal) (b : BitVec 32) : BitVec 32 :=
  step r 2#32 4294967171#32 (step r 4#32 4294967173#32 (step r 8#32 4294967177#32 (step r 16#32 (-111#32) b)))
/-- the whole search. -/
def biased (r : EReal) : BitVec 32 := step r 1#32 (-126#32) (search4 r (search3 r))

/-- The exponent read off the field: 0 for the fields 0 and 255. -/
def ofField (b : BitVec 32) : BitVec 32 := Scalar.select (IntOp.andi (IntOp.cmpi .ne b 0#32) (IntOp.cmpi .ne b 255#32)) (b - 126#32) 0#32

/-- The exponent by logarithm: 0 below the least normal number, else one more than the floor of the base-two logarithm. -/
def byLog (r : EReal) : EReal :=
  Scalar.select (Ideal.cmp .olt r (Ideal.ofBits .f32 0x00800000#32)) (Ideal.ofBits .f32 0x00000000#32)
    (Ideal.liftRound Int.floor (Ideal.div (Ideal.log r) (Ideal.log (Ideal.ofBits .f32 0x40000000#32))) + Ideal.ofBits .f32 0x3F800000#32)

/-! ## The powers of two -/

theorem field_eq (w : BitVec 32) : field w = Ideal.ieee 8 23 (w <<< (23#32)) := by
  unfold field IntOp.shli; rw [if_pos (by decide)]; rfl

theorem fields : ∀ n : Fin 256, (((BitVec.ofNat 32 n.val) <<< (23#32)).extractLsb' 31 1 == 1#1) = false
    ∧ (((BitVec.ofNat 32 n.val) <<< (23#32)).extractLsb' 23 8).toNat = n.val
    ∧ (((BitVec.ofNat 32 n.val) <<< (23#32)).extractLsb' 0 23).toNat = 0 := by decide +kernel

/-- A field from 1 to 254 is a power of two; -/
theorem field_of (n : ℕ) (h1 : 1 ≤ n) (h2 : n ≤ 254) : field (BitVec.ofNat 32 n) = (((2 : ℝ) ^ ((n : ℤ) - 127) : ℝ) : EReal) := by
  obtain ⟨a, b, c⟩ := fields ⟨n, by omega⟩
  rw [field_eq]
  unfold Ideal.ieee
  simp only at a b c
  simp only [Nat.reduceAdd, a, b, c]
  rw [if_neg (by omega), if_neg (by omega)]
  refine congrArg Real.toEReal ?_
  have : ((n : ℤ) - (2 ^ (8 - 1) - 1) - (23 : ℕ)) = ((n : ℤ) - 127) - 23 := by norm_num
  rw [this, zpow_sub₀ (by norm_num : (2 : ℝ) ≠ 0) _ 23]
  norm_num
  ring

/-- the field 255 is infinity. -/
theorem field_top : field (BitVec.ofNat 32 255) = ⊤ := by
  obtain ⟨a, b, c⟩ := fields ⟨255, by omega⟩
  rw [field_eq]
  unfold Ideal.ieee
  simp only at a b c
  simp only [Nat.reduceAdd, a, b, c]
  norm_num

/-! ## The search -/

/-- What the search keeps: `r` lies from the field `n` on, below the field `n + s`. -/
def Inv (r : EReal) (n s : ℕ) : Prop :=
  n + s ≤ 256 ∧ (n = 0 ∨ field (BitVec.ofNat 32 n) ≤ r) ∧ (n + s = 256 ∨ r < field (BitVec.ofNat 32 (n + s)))

theorem Inv.step {r : EReal} {n h : ℕ} (H : Inv r n (h + h)) {off : BitVec 32} (hoff : off + 127#32 = BitVec.ofNat 32 h) :
    ∃ n', Exponent.step r (BitVec.ofNat 32 h) off (BitVec.ofNat 32 n) = BitVec.ofNat 32 n' ∧ Inv r n' h := by
  obtain ⟨h0, h1, h2⟩ := H
  have e : power (BitVec.ofNat 32 n + off) = field (BitVec.ofNat 32 (n + h)) := by
    unfold power; rw [BitVec.add_assoc, hoff, BitVec.ofNat_add]
  unfold Exponent.step
  rw [e]
  by_cases hc : field (BitVec.ofNat 32 (n + h)) ≤ r
  · refine ⟨n + h, ?_, by omega, .inr hc, ?_⟩
    · rw [show Ideal.cmp .oge r (field (BitVec.ofNat 32 (n + h))) = 1#1 by simp [Ideal.cmp, hc]]
      exact (BitVec.ofNat_add ..).symm
    · rw [Nat.add_assoc]; exact h2
  · refine ⟨n, ?_, by omega, h1, .inr (not_le.1 hc)⟩
    rw [show Ideal.cmp .oge r (field (BitVec.ofNat 32 (n + h))) = 0#1 by simp [Ideal.cmp, hc]]
    rfl

/-- The search ends at the field `r` lies in. -/
theorem biased_inv (r : EReal) : ∃ n, biased r = BitVec.ofNat 32 n ∧ Inv r n 1 := by
  obtain ⟨n1, e1, i1⟩ := Inv.step (r := r) (n := 0) (h := 128) ⟨by norm_num, .inl rfl, .inl rfl⟩ (off := 1#32) (by decide)
  obtain ⟨n2, e2, i2⟩ := Inv.step (h := 64) i1 (off := 4294967233#32) (by decide)
  obtain ⟨n3, e3, i3⟩ := Inv.step (h := 32) i2 (off := 4294967201#32) (by decide)
  obtain ⟨n4, e4, i4⟩ := Inv.step (h := 16) i3 (off := -111#32) (by decide)
  obtain ⟨n5, e5, i5⟩ := Inv.step (h := 8) i4 (off := 4294967177#32) (by decide)
  obtain ⟨n6, e6, i6⟩ := Inv.step (h := 4) i5 (off := 4294967173#32) (by decide)
  obtain ⟨n7, e7, i7⟩ := Inv.step (h := 2) i6 (off := 4294967171#32) (by decide)
  obtain ⟨n8, e8, i8⟩ := Inv.step (h := 1) i7 (off := -126#32) (by decide)
  refine ⟨n8, ?_, i8⟩
  unfold biased search4 search3
  rw [e1, e2, e3, e4, e5, e6, e7, e8]

/-! ## The agreement -/

theorem one_eq : Ideal.ofBits .f32 0x3F800000#32 = 1 := by
  have h : field (BitVec.ofNat 32 127) = Ideal.ofBits .f32 0x3F800000#32 := field_eq _
  rw [← h, field_of 127 (by norm_num) (by norm_num)]; norm_num

theorem two_eq : Ideal.ofBits .f32 0x40000000#32 = ((2 : ℝ) : EReal) := by
  have h : field (BitVec.ofNat 32 128) = Ideal.ofBits .f32 0x40000000#32 := field_eq _
  rw [← h, field_of 128 (by norm_num) (by norm_num)]; norm_num

theorem tiny_field : field (BitVec.ofNat 32 1) = Ideal.ofBits .f32 0x00800000#32 := field_eq _

theorem tiny_eq : Ideal.ofBits .f32 0x00800000#32 = (((2 : ℝ) ^ (-126 : ℤ) : ℝ) : EReal) := by
  rw [← tiny_field, field_of 1 (by norm_num) (by norm_num)]; norm_num

theorem zero_eq : Ideal.ofBits .f32 0x00000000#32 = 0 := Ideal.ofBits_zero_f32

/-- The floor of the base-two logarithm of a real from `2^z` to `2^(z+1)` is `z`. -/
theorem floor_log {x : ℝ} {z : ℤ} (h1 : (2 : ℝ) ^ z ≤ x) (h2 : x < (2 : ℝ) ^ (z + 1)) : ⌊Real.log x * (1 / Real.log 2)⌋ = z := by
  have h0 : (0 : ℝ) < 2 ^ z := by positivity
  have l2 : 0 < Real.log 2 := Real.log_pos (by norm_num)
  have a := Real.log_le_log h0 h1
  have b := Real.log_lt_log (h0.trans_le h1) h2
  rw [Real.log_zpow] at a b
  rw [Int.floor_eq_iff, mul_one_div, le_div_iff₀ l2, div_lt_iff₀ l2]
  push_cast at b
  exact ⟨a, b⟩

/-- Both exponents of a real `r` from 0 up to `2^126`, as one integer: the powers of two of either sign agree. -/
theorem agree {x : ℝ} (h0 : 0 ≤ x) (h1 : x < 2 ^ 126) :
    power (ofField (biased (x : EReal))) = Ideal.exp2 (byLog x) ∧ power (0#32 - ofField (biased (x : EReal))) = Ideal.exp2 (Ideal.ofBits .f32 0x00000000#32 - byLog x) := by
  obtain ⟨n, e, i0, i1, i2⟩ := biased_inv (x : EReal)
  rw [e, zero_eq]
  by_cases hn : n = 0
  · subst hn
    have hx : (x : EReal) < Ideal.ofBits .f32 0x00800000#32 := by
      rcases i2 with h | h
      · omega
      · rw [← tiny_field]; exact h
    have hl : byLog x = 0 := by
      unfold byLog
      rw [show Ideal.cmp .olt (x : EReal) (Ideal.ofBits .f32 0x00800000#32) = 1#1 by simp [Ideal.cmp, hx], zero_eq]; rfl
    have hp : power 0#32 = 1 := (field_eq _).trans one_eq
    rw [hl, show ofField (BitVec.ofNat 32 0) = 0#32 by decide, show 0#32 - 0#32 = 0#32 by decide, hp, sub_zero]
    rw [show (0 : EReal) = ((0 : ℝ) : EReal) from rfl, Ideal.exp2_coe]
    simp
  · have i1 := i1.resolve_left hn
    have n254 : n ≤ 252 := by
      by_contra hc
      have hlt : (x : EReal) < field (BitVec.ofNat 32 n) := by
        by_cases h255 : n = 255
        · subst h255; rw [field_top]; exact EReal.coe_lt_top x
        · rw [field_of n (by omega) (by omega), EReal.coe_lt_coe_iff]
          refine h1.trans_le ?_
          rw [show (2 : ℝ) ^ 126 = (2 : ℝ) ^ (126 : ℤ) by norm_cast]
          exact zpow_le_zpow_right₀ (by norm_num) (by omega)
      exact absurd i1 (not_le.2 hlt)
    rw [field_of n (by omega) (by omega), EReal.coe_le_coe_iff] at i1
    have i2 : x < (2 : ℝ) ^ (((n : ℤ) - 127) + 1) := by
      rcases i2 with h | h
      · omega
      · rw [field_of (n + 1) (by omega) (by omega), EReal.coe_lt_coe_iff] at h
        rw [show ((n : ℤ) - 127) + 1 = ((n + 1 : ℕ) : ℤ) - 127 by push_cast; ring]; exact h
    have hx0 : 0 < x := lt_of_lt_of_le (by positivity) i1
    have htiny : ¬ (x : EReal) < Ideal.ofBits .f32 0x00800000#32 := by
      rw [tiny_eq, EReal.coe_lt_coe_iff, not_lt]
      exact (zpow_le_zpow_right₀ (by norm_num) (by omega)).trans i1
    have hl : byLog x = (((n : ℤ) - 126 : ℤ) : ℝ) := by
      unfold byLog
      rw [show Ideal.cmp .olt (x : EReal) (Ideal.ofBits .f32 0x00800000#32) = 0#1 by simp [Ideal.cmp, htiny], two_eq, one_eq,
        Ideal.log_coe, Ideal.log_coe, if_neg (not_le.2 hx0), if_neg (by norm_num), Ideal.div_coe (Real.log_pos (by norm_num)).ne',
        ← EReal.coe_mul, Ideal.liftRound_coe, floor_log i1 i2]
      show ((((n : ℤ) - 127 : ℤ) : ℝ) : EReal) + ((1 : ℝ) : EReal) = _
      rw [← EReal.coe_add]; congr 1; push_cast; ring
    have hf : ofField (BitVec.ofNat 32 n) = BitVec.ofNat 32 n - 126#32 := by
      have h0 : BitVec.ofNat 32 n ≠ 0#32 := fun h => by
        have := congrArg BitVec.toNat h; simp only [BitVec.toNat_ofNat] at this; omega
      have h255 : BitVec.ofNat 32 n ≠ 255#32 := fun h => by
        have := congrArg BitVec.toNat h; simp only [BitVec.toNat_ofNat] at this; omega
      unfold ofField
      rw [show IntOp.andi (IntOp.cmpi .ne (BitVec.ofNat 32 n) 0#32) (IntOp.cmpi .ne (BitVec.ofNat 32 n) 255#32) = 1#1 by
        simp only [IntOp.andi, IntOp.cmpi, bne, beq_eq_false_iff_ne.2 h0, beq_eq_false_iff_ne.2 h255]; decide]
      rfl
    have p1 : power (BitVec.ofNat 32 n - 126#32) = field (BitVec.ofNat 32 (n + 1)) := by
      unfold power; congr 1; apply BitVec.eq_of_toNat_eq; simp; omega
    have p2 : power (0#32 - (BitVec.ofNat 32 n - 126#32)) = field (BitVec.ofNat 32 (253 - n)) := by
      unfold power; congr 1; apply BitVec.eq_of_toNat_eq; simp; omega
    rw [hl, hf, p1, p2, field_of _ (by omega) (by omega), field_of _ (by omega) (by omega), zero_sub, ← EReal.coe_neg, Ideal.exp2_coe, Ideal.exp2_coe]
    constructor
    · congr 1
      show _ = (2 : ℝ) ^ (((n : ℤ) - 126 : ℤ) : ℝ)
      rw [Real.rpow_intCast]; congr 1; push_cast; ring
    · congr 1
      show _ = (2 : ℝ) ^ (-(((n : ℤ) - 126 : ℤ) : ℝ))
      rw [← Int.cast_neg, Real.rpow_intCast]; congr 1; omega

/-! ## The range -/

/-- The greatest finite bfloat16 times 1/448, rounded to a float32, is below `2^126`: a row's greatest magnitude times 1/448
    is in the range where the exponents agree. -/
theorem range {a : EReal} (h0 : 0 ≤ a) (h1 : a ≤ Ideal.ofBits .f32 0x7F7F0000#32) :
    ∃ x : ℝ, a * Ideal.ofBits .f32 0x3B124925#32 = (x : EReal) ∧ 0 ≤ x ∧ x < 2 ^ 126 := by
  have hB : Ideal.ofBits .f32 0x7F7F0000#32 = (((255 : ℝ) * 2 ^ 120 : ℝ) : EReal) := by
    show Ideal.ieee 8 23 (0x7F7F0000#32) = _
    unfold Ideal.ieee
    rw [show ((0x7F7F0000#32).extractLsb' (8 + 23) 1 == 1#1) = false by decide, show ((0x7F7F0000#32).extractLsb' 23 8).toNat = 254 by decide,
      show ((0x7F7F0000#32).extractLsb' 0 23).toNat = 8323072 by decide]
    simp only
    rw [if_neg (by norm_num), if_neg (by norm_num)]
    congr 1; norm_num
  have hc : Ideal.ofBits .f32 0x3B124925#32 = (((9586981 : ℝ) / 2 ^ 32 : ℝ) : EReal) := by
    show Ideal.ieee 8 23 (0x3B124925#32) = _
    unfold Ideal.ieee
    rw [show ((0x3B124925#32).extractLsb' (8 + 23) 1 == 1#1) = false by decide, show ((0x3B124925#32).extractLsb' 23 8).toNat = 118 by decide,
      show ((0x3B124925#32).extractLsb' 0 23).toNat = 1198373 by decide]
    simp only
    rw [if_neg (by norm_num), if_neg (by norm_num)]
    congr 1; norm_num
  rw [hB] at h1
  have ha : a = (a.toReal : EReal) := (EReal.coe_toReal (ne_top_of_le_ne_top (EReal.coe_ne_top _) h1) (ne_bot_of_le_ne_bot EReal.zero_ne_bot h0)).symm
  rw [ha] at h0 h1 ⊢
  rw [EReal.coe_le_coe_iff] at h1
  have h0 : 0 ≤ a.toReal := by exact_mod_cast h0
  refine ⟨a.toReal * (9586981 / 2 ^ 32), by rw [hc, EReal.coe_mul], by positivity, ?_⟩
  calc a.toReal * (9586981 / 2 ^ 32) ≤ 255 * 2 ^ 120 * (9586981 / 2 ^ 32) := by gcongr
    _ < 2 ^ 126 := by norm_num

end Cert.Exponent

end
-- ==== Proof.Rows.lean ====
/- The mathematics of the projection, over extended reals: a row's greatest magnitude, its scale, its codes, and the
   rescaled product of the codes with the weights. It is stated over how a scale and its inverse are found, and the two
   ways of finding them agree on finite rows. -/
module

public import proofs.«01_k».proof.Proof.Exponent
public import Idealize.ShloMosaic.Lib.Pointwise.Index

@[expose] public section

set_option maxRecDepth 16384

noncomputable section

namespace Cert.Rows

open Idealize.ShloMosaic Cert.Exponent

/-- A row of activations. -/
abbrev Row := Fin 5888 → EReal

/-- The greatest magnitude in a row; -/
def amax (v : Row) : EReal := Finset.univ.fold max (Ideal.ofBits .f32 0xFF800000#32) fun k => max (v k) (-v k)

/-- times 1/448. -/
def ratio (v : Row) : EReal := amax v * Ideal.ofBits .f32 0x3B124925#32

/-- A row's scale, its exponent found bit by bit; -/
def scaleBits (v : Row) : EReal := power (ofField (biased (ratio v)))
/-- the scale's inverse. -/
def invBits (v : Row) : EReal := power (0#32 - ofField (biased (ratio v)))

/-- A row's scale, its exponent found by logarithm; -/
def scaleLog (v : Row) : EReal := Ideal.exp2 (byLog (ratio v))
/-- the scale's inverse. -/
def invLog (v : Row) : EReal := Ideal.exp2 (Ideal.ofBits .f32 0x00000000#32 - byLog (ratio v))

/-- The code of `x`: `x` over the scale, clipped to ±448. -/
def code (inv x : EReal) : EReal := min (Ideal.ofBits .f32 0x43E00000#32) (max (Ideal.ofBits .f32 0xC3E00000#32) (x * inv))

/-- Row `R` of the activations. -/
def rowOf (U : (⟨2, ![6144, 5888]⟩ : Shape).Idx → EReal) (R : Fin 6144) : Row := fun k => U (ix2 R k)

/-- Element (R, n) of the projection: the product of row `R`'s codes with row `n` of the weights, times the row's scale,
    times the weights' scale. -/
def proj (inv scale : Row → EReal) (U : (⟨2, ![6144, 5888]⟩ : Shape).Idx → EReal) (W : (⟨2, ![8512, 5888]⟩ : Shape).Idx → EReal)
    (S : (⟨2, ![1, 8512]⟩ : Shape).Idx → EReal) (R : Fin 6144) (n : Fin 8512) : EReal :=
  (∑ k : Fin 5888, code (inv (rowOf U R)) (U (ix2 R k)) * W (ix2 n k)) * scale (rowOf U R) * S (ix2 0 n)

/-- The projection's columns from `off` on, `w` of them. -/
def cols (inv scale : Row → EReal) (U : (⟨2, ![6144, 5888]⟩ : Shape).Idx → EReal) (W : (⟨2, ![8512, 5888]⟩ : Shape).Idx → EReal)
    (S : (⟨2, ![1, 8512]⟩ : Shape).Idx → EReal) (w off : ℕ) (h : off + w ≤ 8512) : (⟨2, ![6144, w]⟩ : Shape).Idx → EReal :=
  fun i => proj inv scale U W S (i 0) ⟨off + (i 1).val, Nat.lt_of_lt_of_le (Nat.add_lt_add_left (i 1).isLt off) h⟩

/-- The codes of all rows. -/
def allCodes (inv : Row → EReal) (U : (⟨2, ![6144, 5888]⟩ : Shape).Idx → EReal) : (⟨2, ![6144, 5888]⟩ : Shape).Idx → EReal :=
  fun i => code (inv (rowOf U (i 0))) (U (ix2 (i 0) (i 1)))

/-- The scales of all rows. -/
def allScales (scale : Row → EReal) (U : (⟨2, ![6144, 5888]⟩ : Shape).Idx → EReal) : (⟨2, ![6144, 1]⟩ : Shape).Idx → EReal :=
  fun i => scale (rowOf U (i 0))

/-- A row is finite if each magnitude is at most the greatest finite bfloat16. -/
def Finite (v : Row) : Prop := ∀ k, max (v k) (-v k) ≤ Ideal.ofBits .f32 0x7F7F0000#32

/-- A finite row's greatest magnitude is between 0 and the greatest finite bfloat16. -/
theorem amax_range {v : Row} (h : Finite v) : 0 ≤ amax v ∧ amax v ≤ Ideal.ofBits .f32 0x7F7F0000#32 := by
  have hbot : Ideal.ofBits .f32 0xFF800000#32 ≤ Ideal.ofBits .f32 0x7F7F0000#32 := by
    rw [show Ideal.ofBits .f32 0xFF800000#32 = (⊥ : EReal) by simp [Ideal.ofBits, Ideal.ieee]]; exact bot_le
  constructor
  · refine Finset.le_fold_max 0 |>.2 (.inr ⟨0, Finset.mem_univ _, ?_⟩)
    rcases le_total 0 (v 0) with h | h
    · exact le_max_of_le_left h
    · exact le_max_of_le_right (EReal.neg_nonneg.2 h)
  · exact Finset.fold_max_le _ |>.2 ⟨hbot, fun k _ => h k⟩

/-- On a finite row the two scales agree; -/
theorem scale_eq {v : Row} (h : Finite v) : scaleBits v = scaleLog v := by
  obtain ⟨x, e, h0, h1⟩ := range (amax_range h).1 (amax_range h).2
  unfold scaleBits scaleLog ratio; rw [e]; exact (agree h0 h1).1

/-- so do their inverses. -/
theorem inv_eq {v : Row} (h : Finite v) : invBits v = invLog v := by
  obtain ⟨x, e, h0, h1⟩ := range (amax_range h).1 (amax_range h).2
  unfold invBits invLog ratio; rw [e]; exact (agree h0 h1).2

/-- On finite activations the two projections agree. -/
theorem proj_eq {U : (⟨2, ![6144, 5888]⟩ : Shape).Idx → EReal} (h : ∀ R, Finite (rowOf U R)) (W S) (R : Fin 6144) (n : Fin 8512) :
    proj invBits scaleBits U W S R n = proj invLog scaleLog U W S R n := by
  unfold proj; rw [inv_eq (h R), scale_eq (h R)]

/-- So do their columns, -/
theorem cols_eq {U : (⟨2, ![6144, 5888]⟩ : Shape).Idx → EReal} (h : ∀ R, Finite (rowOf U R)) (W S) (w off : ℕ) (ho : off + w ≤ 8512) :
    cols invBits scaleBits U W S w off ho = cols invLog scaleLog U W S w off ho := funext fun _ => proj_eq h W S _ _

/-- the codes, -/
theorem allCodes_eq {U : (⟨2, ![6144, 5888]⟩ : Shape).Idx → EReal} (h : ∀ R, Finite (rowOf U R)) : allCodes invBits U = allCodes invLog U :=
  funext fun i => by unfold allCodes; rw [inv_eq (h (i 0))]

/-- and the scales. -/
theorem allScales_eq {U : (⟨2, ![6144, 5888]⟩ : Shape).Idx → EReal} (h : ∀ R, Finite (rowOf U R)) : allScales scaleBits U = allScales scaleLog U :=
  funext fun i => scale_eq (h (i 0))

end Cert.Rows

end
-- ==== Proof.KernelIdeal.Block.lean ====
/- What one block computes, over extended reals: the scales and codes of 64 rows, and an element of the rescaled product. -/
module

public import proofs.«01_k».proof.Proof.KernelIdeal.Body
public import proofs.«01_k».proof.Proof.Rows
public import Idealize.ShloMosaic.Lib.Pointwise
public import Idealize.ShloMosaic.Lib.MatmulPlain

@[expose] public section

noncomputable section

namespace Cert.KernelIdeal.Hand

open Idealize.ShloMosaic Cert.KernelIdeal Cert.KernelIdeal.Gen Cert.Rows Cert.Exponent

/-- Row `r` of a block of 64 rows. -/
def rowIn (X : Vec Ideal S64x5888 .bf16) (r : Fin 64) : Row := fun k => X (ix2 r k)

/-- A block's magnitudes over 448. -/
theorem ratio_block (X : Vec Ideal S64x5888 .bf16) (i : S64x1.Idx) : k0_pay8 X i = ratio (rowIn X (i 0)) := by
  unfold k0_pay8 k0_pay7
  pointwise
  rfl

/-- One step of the search, on every row of a block. -/
def stepV (r : FVec Ideal S64x1 .f32) (bit off : BitVec 32) (b : IVec S64x1 32) : IVec S64x1 32 :=
  select (cmpf .oge r (bitcastToFloat .f32 (shli (addi (addi b (broadcast S64x1 off)) (broadcast S64x1 127#32)) (broadcast S64x1 23#32))))
    (addi b (broadcast S64x1 bit)) b

/-- It is the step, row by row. -/
theorem stepV_apply (r : FVec Ideal S64x1 .f32) (bit off : BitVec 32) (b : IVec S64x1 32) (i : S64x1.Idx) :
    stepV r bit off b i = step (r i) bit off (b i) := rfl

/-- The first three steps, as vectors; -/
theorem search3_vec (X : Vec Ideal S64x5888 .bf16) : k0_pay9 X
    = stepV (k0_pay8 X) 32#32 4294967201#32 (stepV (k0_pay8 X) 64#32 4294967233#32 (stepV (k0_pay8 X) 128#32 1#32 (broadcast S64x1 0#32))) := by
  unfold k0_pay9 stepV
  with_reducible rfl

/-- the next four; -/
theorem search4_vec (r : FVec Ideal S64x1 .f32) (b : IVec S64x1 32) (c : BitVec 32) : k0_pay10 r b c
    = stepV r 2#32 4294967171#32 (stepV r 4#32 4294967173#32 (stepV r 8#32 4294967177#32 (stepV r 16#32 c b))) := by
  unfold k0_pay10 stepV
  with_reducible rfl

/-- the exponent, from the last step's word. -/
def ofFieldV (b : IVec S64x1 32) : IVec S64x1 32 :=
  select (andi (cmpi .ne b (broadcast S64x1 0#32)) (cmpi .ne b (broadcast S64x1 255#32))) (subi b (broadcast S64x1 126#32)) (broadcast S64x1 0#32)

theorem ofFieldV_apply (b : IVec S64x1 32) (i : S64x1.Idx) : ofFieldV b i = ofField (b i) := by
  unfold ofField
  generalize hb : b i = w
  show Scalar.select (IntOp.andi (IntOp.cmpi .ne (b i) 0#32) (IntOp.cmpi .ne (b i) 255#32)) (IntOp.subi (b i) 126#32) 0#32 = _
  rw [hb]; rfl

theorem last_vec (r : FVec Ideal S64x1 .f32) (b : IVec S64x1 32) (c : BitVec 32) : k0_pay11 r b c = ofFieldV (stepV r 1#32 c b) := by
  unfold k0_pay11 stepV ofFieldV
  with_reducible rfl

/-- A block's exponents. -/
theorem exponent_block (X : Vec Ideal S64x5888 .bf16) (i : S64x1.Idx) :
    k0_pay11 (k0_pay8 X) (search X) (-126#32) i = ofField (biased (k0_pay8 X i)) := by
  rw [last_vec, ofFieldV_apply, stepV_apply]
  unfold search
  rw [search4_vec, search3_vec]
  rw [stepV_apply, stepV_apply, stepV_apply, stepV_apply, stepV_apply, stepV_apply, stepV_apply]
  unfold biased search4 search3
  generalize hb : broadcast S64x1 0#32 i = b
  rw [show b = 0#32 from hb.symm]

/-- A block's scales; -/
theorem scales_block (X : Vec Ideal S64x5888 .bf16) (i : S64x1.Idx) : scales X i = scaleBits (rowIn X (i 0)) := by
  have h := exponent_block X i
  rw [ratio_block] at h
  unfold scales k0_pay13 scaleBits
  rw [← h]
  generalize k0_pay11 (k0_pay8 X) (search X) (-126#32) = e
  rfl

/-- its codes. -/
theorem codes_block (X : Vec Ideal S64x5888 .bf16) (r : Fin 64) (k : Fin 5888) : codes X (ix2 r k) = code (invBits (rowIn X r)) (X (ix2 r k)) := by
  have h := exponent_block X (ix2 r 0)
  rw [ratio_block] at h
  unfold invBits
  rw [show (ix2 r 0 : S64x1.Idx) 0 = r from rfl] at h
  rw [← h]
  unfold codes k0_pay12 k0_pay7
  generalize k0_pay11 (k0_pay8 X) (search X) (-126#32) = e
  pointwise
  generalize e (ix2 r 0) = w
  rfl

/-- An element of the rescaled product. -/
theorem product_block (C : Vec Ideal S1x1024x5888 .fp8e4m3) (w : Vec Ideal S512x5888 .fp8e4m3) (S : Vec Ideal S1x1024x128 .f32) (ws : Vec Ideal S1x512 .f32)
    (r : Fin 1024) (n : Fin 512) : k0_pay3 C w S ws (ix2 r n)
      = (∑ k : Fin 5888, C (ix3 0 r k) * w (ix2 n k)) * S (ix3 0 r ⟨n.val % 128, Nat.mod_lt _ (by norm_num)⟩) * ws (ix2 0 n) := by
  unfold k0_pay3
  pointwise
  have : ∀ (a b : ℕ) (ha : a < 128) (hb : b < 128), a = b → S (ix3 0 r ⟨a, ha⟩) = S (ix3 0 r ⟨b, hb⟩) := by
    intro a b ha hb h; subst h; rfl
  congr 2
  split_ifs <;> exact this _ _ _ _ (by omega)

end Cert.KernelIdeal.Hand

end
-- ==== Proof.KernelIdeal.Inputs.lean ====
/- What the kernel reads, at coordinates, over the ideal numbers: the blocks of the activations, the row groups of codes and
   scales, and the windows of the weights, as elements of the arrays the kernel is entered with. -/
module

public import proofs.«01_k».proof.Proof.KernelIdeal.Run
public import proofs.«01_k».proof.Proof.KernelIdeal.Block
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Rows Cert.TwoSlots

variable (m : (ℓ : Loc nD τ sig) → Buf (Elt Ideal) ℓ) (c : Dev nD)

/-! ## Where the windows lie -/

theorem index0 : ∀ t : Fin cfg0.N, win0_0.index t = ![min (16 * (t.val / 17) + min (t.val % 17) 15) 95, 0] :=
  (by decide +kernel : ∀ t : Fin grid0.N, _)
theorem index1 : ∀ t : Fin cfg0.N, 17 ≤ t.val → win0_1.index t = ![t.val % 17, 0] := (by decide +kernel : ∀ t : Fin grid0.N, _)
theorem index2 : ∀ t : Fin cfg0.N, 17 ≤ t.val → win0_2.index t = ![0, t.val % 17] := (by decide +kernel : ∀ t : Fin grid0.N, _)
/-- The weights' window is cut at the array's end, -/
theorem xsize1 : ∀ t : Fin cfg0.N, 17 ≤ t.val → win0_1.xsize (grid0.coords t) 0 = min 512 (8512 - 512 * (t.val % 17))
    ∧ win0_1.xsize (grid0.coords t) 1 = 5888 := (by decide +kernel : ∀ t : Fin grid0.N, _)
/-- so is their scales'. -/
theorem xsize2 : ∀ t : Fin cfg0.N, 17 ≤ t.val → win0_2.xsize (grid0.coords t) 0 = 1
    ∧ win0_2.xsize (grid0.coords t) 1 = min 512 (8512 - 512 * (t.val % 17)) := (by decide +kernel : ∀ t : Fin grid0.N, _)

theorem at8_ptOf : ∀ b : Fin 96, at8 (ptOf b.val) = b.val := by decide +kernel

/-! ## The activations -/

/-- Block `b` of 64 rows is the rows from `64 b` on. -/
theorem blkU_apply (b : ℕ) (hb : b < 96) (r : Fin 64) (k : Fin 5888) (R : Fin 6144) (hR : R.val = 64 * b + r.val) :
    blkU m c b (ix2 r k) = V m c main_v0 (ix2 R k) := by
  have e := at8_ptOf ⟨b, hb⟩
  have e0 := index0 (ptOf b)
  rw [show min (16 * ((ptOf b).val / 17) + min ((ptOf b).val % 17) 15) 95 = b from e] at e0
  unfold blkU
  blk_simp [iblk]
  refine congrArg (V m c main_v0) ?_
  blk_ext [e0]

/-- Its row `r` is row `64 b + r`. -/
theorem rowIn_blkU (b : ℕ) (hb : b < 96) (r : Fin 64) (R : Fin 6144) (hR : R.val = 64 * b + r.val) :
    rowIn (blkU m c b) r = rowOf (V m c main_v0) R := funext fun k => blkU_apply m c b hb r k R hR

/-- The codes of a block, element by element; -/
theorem codes_blkU (b : ℕ) (hb : b < 96) (r : Fin 64) (k : Fin 5888) (R : Fin 6144) (hR : R.val = 64 * b + r.val) :
    codes (blkU m c b) (ix2 r k) = code (invBits (rowOf (V m c main_v0) R)) (V m c main_v0 (ix2 R k)) := by
  rw [codes_block, rowIn_blkU m c b hb r R hR, blkU_apply m c b hb r k R hR]

/-- its scales. -/
theorem scales_blkU (b : ℕ) (hb : b < 96) (i : S64x1.Idx) (R : Fin 6144) (hR : R.val = 64 * b + (i 0).val) :
    scales (blkU m c b) i = scaleBits (rowOf (V m c main_v0) R) := by
  rw [scales_block, rowIn_blkU m c b hb (i 0) R hR]

/-! ## The row groups -/

theorem pay1_apply (X : Vec Ideal S64x5888 .fp8e4m3) (r : Fin 64) (k : Fin 5888) : k0_pay1 (F := Ideal) X (ix3 0 r k) = X (ix2 r k) := by
  unfold k0_pay1; pointwise

theorem pay2_apply (X : Vec Ideal S64x1 .f32) (r : Fin 64) (l : Fin 128) : k0_pay2 (F := Ideal) X (ix3 0 r l) = X (ix2 r 0) := by
  unfold k0_pay2; pointwise

/-- Row group `g` holds the codes of the rows from `1024 g` on; -/
theorem groupC_apply (g : ℕ) (hg : g < 6) (r : Fin 1024) (k : Fin 5888) (R : Fin 6144) (hR : R.val = 1024 * g + r.val) :
    groupC m c g (ix3 0 r k) = code (invBits (rowOf (V m c main_v0) R)) (V m c main_v0 (ix2 R k)) := by
  have hr := r.isLt
  show rowsC m c (16 * g + r.val / 64) (ix3 0 ⟨r.val % 64, _⟩ k) = _
  unfold rowsC
  rw [pay1_apply, codes_blkU m c _ (by omega) _ k R (by show _ = 64 * (16 * g + r.val / 64) + r.val % 64; omega)]

/-- their scales. -/
theorem groupS_apply (g : ℕ) (hg : g < 6) (r : Fin 1024) (l : Fin 128) (R : Fin 6144) (hR : R.val = 1024 * g + r.val) :
    groupS m c g (ix3 0 r l) = scaleBits (rowOf (V m c main_v0) R) := by
  have hr := r.isLt
  show rowsS m c (16 * g + r.val / 64) (ix3 0 ⟨r.val % 64, _⟩ l) = _
  unfold rowsS
  rw [pay2_apply, scales_blkU m c _ (by omega) _ R (by show _ = 64 * (16 * g + r.val / 64) + r.val % 64; omega)]

/-! ## The weights -/

/-- At a point that multiplies the weights' window holds, up to the array's end, the rows from `512 j` on; -/
theorem wAt_apply (t : Fin cfg0.N) (h : 17 ≤ t.val) (d : Vec Ideal S512x5888 .fp8e4m3) (r : Fin 512) (k : Fin 5888) (n : Fin 8512)
    (hn : n.val = 512 * (t.val % 17) + r.val) : wAt m c t d (ix2 r k) = V m c main_arg1 (ix2 n k) := by
  have e1 := index1 t h
  obtain ⟨x0, x1⟩ := xsize1 t h
  have hm : win0_1.moved (grid0.coords t) (ix2 r k) = true := (win0_1.moved_iff _ _).2 fun a => by
    match a with
    | ⟨0, _⟩ => rw [show win0_1.xsize (grid0.coords t) ⟨0, _⟩ = _ from x0]; show r.val < _; have := n.isLt; have := r.isLt; omega
    | ⟨1, _⟩ => rw [show win0_1.xsize (grid0.coords t) ⟨1, _⟩ = _ from x1]; exact k.isLt
  show win0_1.fill (grid0.coords t) d (iblk m c 1 t) (ix2 r k) = _
  unfold Pipeline.Window.fill
  rw [dif_pos hm]
  blk_simp [iblk]
  refine congrArg (V m c main_arg1) ?_
  blk_ext [e1]

/-- and their scales'. -/
theorem wsAt_apply (t : Fin cfg0.N) (h : 17 ≤ t.val) (d : Vec Ideal S1x512 .f32) (r : Fin 512) (n : Fin 8512)
    (hn : n.val = 512 * (t.val % 17) + r.val) : wsAt m c t d (ix2 0 r) = V m c main_v1 (ix2 0 n) := by
  have e2 := index2 t h
  obtain ⟨x0, x1⟩ := xsize2 t h
  have hm : win0_2.moved (grid0.coords t) (ix2 0 r) = true := (win0_2.moved_iff _ _).2 fun a => by
    match a with
    | ⟨0, _⟩ => rw [show win0_2.xsize (grid0.coords t) ⟨0, _⟩ = _ from x0]; exact Nat.one_pos
    | ⟨1, _⟩ => rw [show win0_2.xsize (grid0.coords t) ⟨1, _⟩ = _ from x1]; show r.val < _; have := n.isLt; have := r.isLt; omega
  show win0_2.fill (grid0.coords t) d (iblk m c 2 t) (ix2 0 r) = _
  unfold Pipeline.Window.fill
  rw [dif_pos hm]
  blk_simp [iblk]
  refine congrArg (V m c main_v1) ?_
  blk_ext [e2]

/-- A product's element is the projection's. -/
theorem product_apply (g : ℕ) (hg : g < 6) (t : Fin cfg0.N) (h : 17 ≤ t.val) (d e) (r : Fin 1024) (l : Fin 512) (R : Fin 6144)
    (hR : R.val = 1024 * g + r.val) (n : Fin 8512) (hn : n.val = 512 * (t.val % 17) + l.val) :
    k0_pay3 (groupC m c g) (wAt m c t d) (groupS m c g) (wsAt m c t e) (ix2 r l)
      = proj invBits scaleBits (V m c main_v0) (V m c main_arg1) (V m c main_v1) R n := by
  rw [product_block, groupS_apply m c g hg r _ R hR, wsAt_apply m c t h e l n hn]
  unfold proj
  refine congrArg (fun x => x * _ * _) (Finset.sum_congr rfl fun k _ => ?_)
  rw [groupC_apply m c g hg r k R hR, wAt_apply m c t h d l k n hn]

end Cert.KernelIdeal.Hand

end
-- ==== Proof.KernelIdeal.Arrays.lean ====
/- What the kernel's seven result arrays hold after the run, over the ideal numbers: the projection's five column ranges, the
   codes and the scales, as functions of the arrays the kernel is entered with. -/
module

public import proofs.«01_k».proof.Proof.KernelIdeal.Inputs

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen Cert.Rows

variable (m : (ℓ : Loc nD τ sig) → Buf (Elt Ideal) ℓ) (ρ : Dev nD → PrngReg) (c : Dev nD)

/-! ## Where the results are written back -/

theorem index3 : ∀ t : Fin cfg0.N, (cfg0.win 3).flush t = true → 17 ≤ t.val ∧ win0_3.index t = ![t.val / 17 - 1, min (t.val % 17) 7] :=
  (by decide +kernel : ∀ t : Fin grid0.N, _)
theorem index4 : ∀ t : Fin cfg0.N, (cfg0.win 4).flush t = true →
    17 ≤ t.val ∧ 8 ≤ t.val % 17 ∧ win0_4.index t = ![t.val / 17 - 1, min (t.val % 17) 15 - 8] := (by decide +kernel : ∀ t : Fin grid0.N, _)
theorem index5 : ∀ t : Fin cfg0.N, (cfg0.win 5).flush t = true → 17 ≤ t.val ∧ t.val % 17 = 16 ∧ win0_5.index t = ![t.val / 17 - 1, 0] :=
  (by decide +kernel : ∀ t : Fin grid0.N, _)
theorem index6 : ∀ t : Fin cfg0.N, (cfg0.win 6).flush t = true → 17 ≤ t.val ∧ t.val % 17 = 16 ∧ win0_6.index t = ![t.val / 17 - 1, 0] :=
  (by decide +kernel : ∀ t : Fin grid0.N, _)
theorem index7 : ∀ t : Fin cfg0.N, (cfg0.win 7).flush t = true → 17 ≤ t.val ∧ t.val % 17 = 16 ∧ win0_7.index t = ![t.val / 17 - 1, 0] :=
  (by decide +kernel : ∀ t : Fin grid0.N, _)
theorem index8 : ∀ t : Fin cfg0.N, win0_8.index t = ![min (16 * (t.val / 17) + min (t.val % 17) 15) 95, 0] :=
  (by decide +kernel : ∀ t : Fin grid0.N, _)
theorem index9 : ∀ t : Fin cfg0.N, win0_9.index t = ![min (16 * (t.val / 17) + min (t.val % 17) 15) 95, 0] :=
  (by decide +kernel : ∀ t : Fin grid0.N, _)

/-! ## The arrays -/

/-- The third result takes the first 128 columns of the last product, -/
theorem pay4_apply (C : Vec Ideal S1x1024x5888 .fp8e4m3) (w : Vec Ideal S512x5888 .fp8e4m3) (S : Vec Ideal S1x1024x128 .f32) (ws : Vec Ideal S1x512 .f32)
    (r : Fin 1024) (l : Fin 128) : k0_pay4 C w S ws (ix2 r l) = k0_pay3 C w S ws (ix2 r ⟨0 + l.val, by omega⟩) := by
  unfold k0_pay4; pointwise

/-- the fourth the next 128, -/
theorem pay5_apply (C : Vec Ideal S1x1024x5888 .fp8e4m3) (w : Vec Ideal S512x5888 .fp8e4m3) (S : Vec Ideal S1x1024x128 .f32) (ws : Vec Ideal S1x512 .f32)
    (r : Fin 1024) (l : Fin 128) : k0_pay5 C w S ws (ix2 r l) = k0_pay3 C w S ws (ix2 r ⟨128 + l.val, by omega⟩) := by
  unfold k0_pay5; pointwise

/-- the fifth the 64 after those. -/
theorem pay6_apply (C : Vec Ideal S1x1024x5888 .fp8e4m3) (w : Vec Ideal S512x5888 .fp8e4m3) (S : Vec Ideal S1x1024x128 .f32) (ws : Vec Ideal S1x512 .f32)
    (r : Fin 1024) (l : Fin 64) : k0_pay6 C w S ws (ix2 r l) = k0_pay3 C w S ws (ix2 r ⟨256 + l.val, by omega⟩) := by
  unfold k0_pay6; pointwise

/-- The columns of the projection the kernel computes. -/
abbrev colsK (w off : ℕ) (h : off + w ≤ 8512) := cols invBits scaleBits (V m c main_v0) (V m c main_arg1) (V m c main_v1) w off h

variable {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))

include hL

/-- The first result: columns 0 to 4095. -/
theorem arr3 : ((rdat m c).withAfter after).arrAt 3 cfg0.N = colsK m c 4096 0 (by norm_num) := by
  refine ((rdat m c).withAfter after).arrAt_eq_of_covers 3 _ (by decide +kernel) fun t hf y => ?_
  obtain ⟨h17, e⟩ := index3 t hf
  obtain ⟨Y, -, hY⟩ := hL 3 t hf
  obtain ⟨d, d', hX⟩ := hY h17
  have ht := points_lt t
  blk_simp
  rw [Pipeline.RDat.withAfter_after, hX]
  obtain ⟨r, l, rfl⟩ : ∃ (r : Fin 1024) (l : Fin 512), y = ix2 r l := ⟨y 0, y 1, (ix2_eta y).symm⟩
  have hr := r.isLt; have hl := l.isLt
  have e' : (at3 t).val = 17 * (t.val / 17) + min (t.val % 17) 7 := rfl
  refine (product_apply m c (t.val / 17 - 1) (by omega) (at3 t) (by omega) d d' r l _ ?_ _ ?_)
  · blk_simp [e]; omega
  · rw [e']; blk_simp [e]; dsimp only; omega

/-- The second: columns 4096 to 8191. -/
theorem arr4 : ((rdat m c).withAfter after).arrAt 4 cfg0.N = colsK m c 4096 4096 (by norm_num) := by
  refine ((rdat m c).withAfter after).arrAt_eq_of_covers 4 _ (by decide +kernel) fun t hf y => ?_
  obtain ⟨h17, h8, e⟩ := index4 t hf
  obtain ⟨Y, -, hY⟩ := hL 4 t hf
  obtain ⟨d, d', hX⟩ := hY h17 h8
  have ht := points_lt t
  blk_simp
  rw [Pipeline.RDat.withAfter_after, hX]
  obtain ⟨r, l, rfl⟩ : ∃ (r : Fin 1024) (l : Fin 512), y = ix2 r l := ⟨y 0, y 1, (ix2_eta y).symm⟩
  have hr := r.isLt; have hl := l.isLt
  have e' : (at4 t).val = 17 * (t.val / 17) + min (t.val % 17) 15 := rfl
  refine (product_apply m c (t.val / 17 - 1) (by omega) (at4 t) (by omega) d d' r l _ ?_ _ ?_)
  · blk_simp [e]; omega
  · rw [e']; blk_simp [e]; dsimp only; omega

/-- The third: columns 8192 to 8319. -/
theorem arr5 : ((rdat m c).withAfter after).arrAt 5 cfg0.N = colsK m c 128 8192 (by norm_num) := by
  refine ((rdat m c).withAfter after).arrAt_eq_of_covers 5 _ (by decide +kernel) fun t hf y => ?_
  obtain ⟨h17, h16, e⟩ := index5 t hf
  obtain ⟨Y, -, hY⟩ := hL 5 t hf
  obtain ⟨d, d', hX⟩ := hY h17 h16
  have ht := points_lt t
  blk_simp
  rw [Pipeline.RDat.withAfter_after, hX]
  obtain ⟨r, l, rfl⟩ : ∃ (r : Fin 1024) (l : Fin 128), y = ix2 r l := ⟨y 0, y 1, (ix2_eta y).symm⟩
  have hr := r.isLt; have hl := l.isLt
  refine (pay4_apply _ _ _ _ r l).trans ((product_apply m c (t.val / 17 - 1) (by omega) t h17 d d' r _ _ ?_ _ ?_))
  · blk_simp [e]; omega
  · blk_simp [e]; dsimp only; omega

/-- The fourth: columns 8320 to 8447. -/
theorem arr6 : ((rdat m c).withAfter after).arrAt 6 cfg0.N = colsK m c 128 8320 (by norm_num) := by
  refine ((rdat m c).withAfter after).arrAt_eq_of_covers 6 _ (by decide +kernel) fun t hf y => ?_
  obtain ⟨h17, h16, e⟩ := index6 t hf
  obtain ⟨Y, -, hY⟩ := hL 6 t hf
  obtain ⟨d, d', hX⟩ := hY h17 h16
  have ht := points_lt t
  blk_simp
  rw [Pipeline.RDat.withAfter_after, hX]
  obtain ⟨r, l, rfl⟩ : ∃ (r : Fin 1024) (l : Fin 128), y = ix2 r l := ⟨y 0, y 1, (ix2_eta y).symm⟩
  have hr := r.isLt; have hl := l.isLt
  refine (pay5_apply _ _ _ _ r l).trans ((product_apply m c (t.val / 17 - 1) (by omega) t h17 d d' r _ _ ?_ _ ?_))
  · blk_simp [e]; omega
  · blk_simp [e]; dsimp only; omega

/-- The fifth: columns 8448 to 8511. -/
theorem arr7 : ((rdat m c).withAfter after).arrAt 7 cfg0.N = colsK m c 64 8448 (by norm_num) := by
  refine ((rdat m c).withAfter after).arrAt_eq_of_covers 7 _ (by decide +kernel) fun t hf y => ?_
  obtain ⟨h17, h16, e⟩ := index7 t hf
  obtain ⟨Y, -, hY⟩ := hL 7 t hf
  obtain ⟨d, d', hX⟩ := hY h17 h16
  have ht := points_lt t
  blk_simp
  rw [Pipeline.RDat.withAfter_after, hX]
  obtain ⟨r, l, rfl⟩ : ∃ (r : Fin 1024) (l : Fin 64), y = ix2 r l := ⟨y 0, y 1, (ix2_eta y).symm⟩
  have hr := r.isLt; have hl := l.isLt
  refine (pay6_apply _ _ _ _ r l).trans ((product_apply m c (t.val / 17 - 1) (by omega) t h17 d d' r _ _ ?_ _ ?_))
  · blk_simp [e]; omega
  · blk_simp [e]; dsimp only; omega

/-- The sixth: the codes. -/
theorem arr8 : ((rdat m c).withAfter after).arrAt 8 cfg0.N = allCodes invBits (V m c main_v0) := by
  refine ((rdat m c).withAfter after).arrAt_eq_of_covers 8 _ (by decide +kernel) fun t hf y => ?_
  have e := index8 t
  obtain ⟨Y, -, hX⟩ := hL 8 t hf
  have hX : after 8 t = codes (blkU m c (at8 t)) := hX
  have e' : at8 t = min (16 * (t.val / 17) + min (t.val % 17) 15) 95 := rfl
  blk_simp
  rw [Pipeline.RDat.withAfter_after, hX]
  obtain ⟨r, k, rfl⟩ : ∃ (r : Fin 64) (k : Fin 5888), y = ix2 r k := ⟨y 0, y 1, (ix2_eta y).symm⟩
  refine (codes_blkU m c (at8 t) (by omega) r k (((cfg0.win 8).blk t).view.emb (ix2 r k) 0) ?_).trans ?_
  · rw [e']; blk_simp [e]; omega
  · have e1 : ((cfg0.win 8).blk t).view.emb (ix2 r k) 1 = k := Fin.ext (by blk_simp [e])
    unfold allCodes
    exact congrArg (fun k' => code _ (V m c main_v0 (ix2 _ k'))) e1.symm

/-- The seventh: the scales. -/
theorem arr9 : ((rdat m c).withAfter after).arrAt 9 cfg0.N = allScales scaleBits (V m c main_v0) := by
  refine ((rdat m c).withAfter after).arrAt_eq_of_covers 9 _ (by decide +kernel) fun t hf y => ?_
  have e := index9 t
  obtain ⟨Y, -, hX⟩ := hL 9 t hf
  have hX : after 9 t = scales (blkU m c (at8 t)) := hX
  have e' : at8 t = min (16 * (t.val / 17) + min (t.val % 17) 15) 95 := rfl
  blk_simp
  rw [Pipeline.RDat.withAfter_after, hX]
  refine (scales_blkU m c (at8 t) (by omega) y (((cfg0.win 9).blk t).view.emb y 0) ?_)
  rw [e']; blk_simp [e]; omega

omit hL in
/-- The kernel's run: its seven results, and its arguments as they were. -/
theorem run_values : θ_run defs (onTc (τ := τ) (main (F := Ideal))) ⟨m, fun _ => 0, ρ⟩ fun r => ∀ c : Dev nD,
    r.2.mem ((c.tc : Thread nD τ).loc main_v2_0) = colsK m c 4096 0 (by norm_num)
    ∧ r.2.mem ((c.tc : Thread nD τ).loc main_v2_1) = colsK m c 4096 4096 (by norm_num)
    ∧ r.2.mem ((c.tc : Thread nD τ).loc main_v2_2) = colsK m c 128 8192 (by norm_num)
    ∧ r.2.mem ((c.tc : Thread nD τ).loc main_v2_3) = colsK m c 128 8320 (by norm_num)
    ∧ r.2.mem ((c.tc : Thread nD τ).loc main_v2_4) = colsK m c 64 8448 (by norm_num)
    ∧ r.2.mem ((c.tc : Thread nD τ).loc main_v2_5) = allCodes invBits (V m c main_v0)
    ∧ r.2.mem ((c.tc : Thread nD τ).loc main_v2_6) = allScales scaleBits (V m c main_v0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run m ρ)
  obtain ⟨after, hL, hA⟩ := h.1.exists_exact c
  exact ⟨(hA 3).trans (arr3 m c hL), (hA 4).trans (arr4 m c hL), (hA 5).trans (arr5 m c hL), (hA 6).trans (arr6 m c hL),
    (hA 7).trans (arr7 m c hL), (hA 8).trans (arr8 m c hL), (hA 9).trans (arr9 m c hL),
    ((h.1 c).2 main_arg0 (Pipeline.mem_restRefs_of main_arg0 (by decide) (by decide))).trans (V_main_arg0 m c),
    (Pipeline.RDat.FramePost.arr_in h.1 c 1 rfl).trans (V_main_arg1 m c),
    ((h.1 c).2 main_arg2 (Pipeline.mem_restRefs_of main_arg2 (by decide) (by decide))).trans (V_main_arg2 m c)⟩

end Cert.KernelIdeal.Hand

end
-- ==== Proof.ReferenceIdeal.Block.lean ====
/- What the reference computes, over the ideal numbers, as functions of its three operands: the codes, the scales and the
   projection, every scale's exponent found by logarithm. -/
module

public import proofs.«01_k».proof.Proof.Gen.ReferenceIdeal.Skeleton
public import proofs.«01_k».proof.Proof.Rows
public import Idealize.ShloMosaic.Lib.Pointwise
public import Idealize.ShloMosaic.Lib.MatmulPlain

@[expose] public section

set_option maxRecDepth 16384

noncomputable section

namespace Cert.ReferenceIdeal.Hand

open Idealize.ShloMosaic Cert.ReferenceIdeal Cert.ReferenceIdeal.Gen Cert.Rows Cert.Exponent

variable (U : Vec Ideal S6144x5888 .bf16) (W : Vec Ideal S8512x5888 .fp8e4m3) (S : Vec Ideal S1x8512 .f32)

/-! ## The operations, at an index -/

theorem splat_apply {α : Type} {s : Shape} (x : α) (i : s.Idx) : broadcast s x i = x := rfl
theorem choose_apply {α : Type} {s : Shape} (c : IVec s 1) (a b : s.Idx → α) (i : s.Idx) :
    select c a b i = Scalar.select (c i) (a i) (b i) := rfl
theorem compare_apply {s : Shape} {φ : FTy} (p : CmpFPredicate) (a b : FVec Ideal s φ) (i : s.Idx) :
    cmpf p a b i = Ideal.cmp p (a i) (b i) := rfl
theorem log_def (a : EReal) : FloatOps.log (F := Ideal) (φ := .f32) a = Ideal.log a := rfl
theorem exp2_def (a : EReal) : FloatOps.exp2 (F := Ideal) (φ := .f32) a = Ideal.exp2 a := rfl
theorem floor_def (a : EReal) : FloatOps.floor (F := Ideal) (φ := .f32) a = Ideal.liftRound Int.floor a := rfl
theorem abs_def (a : EReal) : FloatOps.absf (F := Ideal) (φ := .f32) a = max a (-a) := rfl
theorem div_def (a b : EReal) : FloatOps.divf (F := Ideal) (φ := .f32) a b = Ideal.div a b := rfl
theorem add_def (a b : EReal) : FloatOps.addf (F := Ideal) (φ := .f32) a b = a + b := rfl
theorem sub_def (a b : EReal) : FloatOps.subf (F := Ideal) (φ := .f32) a b = a - b := rfl
theorem mul_def (a b : EReal) : FloatOps.mulf (F := Ideal) (φ := .f32) a b = a * b := rfl
theorem max_def (a b : EReal) : FloatOps.maximumf (F := Ideal) (φ := .f32) a b = max a b := rfl
theorem min_def (a b : EReal) : FloatOps.minimumf (F := Ideal) (φ := .f32) a b = min a b := rfl
theorem bits_def (w : BitVec 32) : FloatOps.ofBits (F := Ideal) .f32 w = Ideal.ofBits .f32 w := rfl
theorem trunc_def (a : EReal) (h) : FloatOps.truncf (F := Ideal) (φ := .f32) .fp8e4m3 h a = a := rfl

/-- A vector stood up as a column. -/
theorem column_apply (v : FVec Ideal S6144 .f32) (R : Fin 6144) : shapeCast S6144x1 v shapeCasts_S6144_S6144x1 (ix2 R 0) = v (ix1 R) := by
  pointwise

/-- A column spread over the rows. -/
theorem spread_apply (v : FVec Ideal S6144x1 .f32) (h) (R : Fin 6144) (k : Fin 5888) :
    broadcastTo S6144x5888 v h (ix2 R k) = v (ix2 R 0) := by pointwise

/-- The maximum of each row. -/
theorem maximum_apply (v : FVec Ideal S6144x5888 .f32) (R : Fin 6144) :
    multiReduction .maximumf [1] S6144 v 0xFF800000#32 reduces_S6144x5888_S6144 (.inl rfl) rfl (ix1 R)
      = Finset.univ.fold max (Ideal.ofBits .f32 0xFF800000#32) fun k => v (ix2 R k) := by
  pointwise

/-- The activations, widened, are as they were. -/
theorem widened_apply (R : Fin 6144) (k : Fin 5888) : (k0_pay5 (F := Ideal) U (ix2 R k) : EReal) = U (ix2 R k) := by
  unfold k0_pay5; pointwise

/-! ## The reference's vectors -/

/-- The greatest magnitude of each row, times 1/448. -/
def ratioV : FVec Ideal S6144x1 .f32 :=
  mulf (shapeCast S6144x1 (multiReduction .maximumf [1] S6144 (absf (k0_pay5 U)) 0xFF800000#32 reduces_S6144x5888_S6144 (.inl rfl) rfl) shapeCasts_S6144_S6144x1)
    (broadcast S6144x1 (Scalar.ofBits .f32 0x3B124925#32))

theorem ratioV_apply (R : Fin 6144) : ratioV U (ix2 R 0) = ratio (rowOf U R) := by
  have h := fun k => widened_apply U R k
  unfold ratioV
  generalize k0_pay5 U = X at h ⊢
  rw [mulf_apply, column_apply, maximum_apply, splat_apply, mul_def, bits_def]
  unfold ratio amax
  have e : (fun k => absf X (ix2 R k)) = fun k => max (rowOf U R k) (-(rowOf U R k)) := funext fun k => by
    rw [absf_apply, h k]; unfold rowOf; exact abs_def _
  rw [e]

/-- The exponents, from those. -/
theorem exponent_vec : k0_pay6 U = select (cmpf .olt (ratioV U) (broadcast S6144x1 (Scalar.ofBits .f32 0x00800000#32)))
    (broadcast S6144x1 (Scalar.ofBits .f32 0x00000000#32))
    (addf (floor (divf (log (ratioV U)) (log (broadcast S6144x1 (Scalar.ofBits .f32 0x40000000#32))))) (broadcast S6144x1 (Scalar.ofBits .f32 0x3F800000#32))) := by
  unfold k0_pay6 ratioV
  with_reducible rfl

/-- Each row's exponent, by logarithm. -/
theorem exponent_ref (R : Fin 6144) : k0_pay6 U (ix2 R 0) = byLog (ratio (rowOf U R)) := by
  rw [← ratioV_apply, exponent_vec]
  generalize ratioV U = r
  rw [choose_apply, compare_apply, addf_apply, floor_apply, divf_apply, log_apply, log_apply, splat_apply, splat_apply, splat_apply,
    splat_apply, log_def, log_def, floor_def, div_def, add_def, bits_def, bits_def, bits_def, bits_def]
  unfold byLog
  with_reducible rfl

/-- Each row's scale; -/
theorem scale_ref (R : Fin 6144) : k0_pay7 U (ix2 R 0) = scaleLog (rowOf U R) := by
  have h := exponent_ref U R
  unfold k0_pay7 scaleLog
  generalize byLog (ratio (rowOf U R)) = b at h ⊢
  generalize k0_pay6 U = e at h ⊢
  rw [exp2_apply, h, exp2_def]

/-- each row's codes. -/
theorem code_ref (R : Fin 6144) (k : Fin 5888) : k0_pay8 U (ix2 R k) = code (invLog (rowOf U R)) (U (ix2 R k)) := by
  have h := exponent_ref U R
  have h5 := widened_apply U R k
  unfold k0_pay8 invLog
  generalize byLog (ratio (rowOf U R)) = b at h ⊢
  generalize k0_pay6 U = e at h ⊢
  generalize k0_pay5 U = X at h5 ⊢
  rw [truncf_apply, minimumf_apply, maximumf_apply, mulf_apply, spread_apply, exp2_apply, subf_apply, splat_apply, splat_apply, splat_apply,
    h, h5, exp2_def, mul_def, sub_def, min_def, max_def, trunc_def, bits_def, bits_def, bits_def]
  unfold code
  with_reducible rfl

/-- The projection. -/
theorem proj_ref (R : Fin 6144) (n : Fin 8512) : k0_pay9 U W S (ix2 R n) = proj invLog scaleLog U W S R n := by
  have h := scale_ref U R
  have hc := code_ref U R
  unfold k0_pay9
  generalize k0_pay7 U = s at h ⊢
  generalize k0_pay8 U = C at hc ⊢
  pointwise
  unfold proj
  rw [h]
  have e : (fun k => C (ix2 R k) * W (ix2 n k)) = fun k => code (invLog (rowOf U R)) (U (ix2 R k)) * W (ix2 n k) := funext fun k => by rw [hc k]
  exact congrArg (fun f : Fin 5888 → EReal => (∑ k, f k) * scaleLog (rowOf U R) * S (ix2 0 n)) e

/-! ## The five column ranges -/

/-- The first result takes columns 0 to 4095, -/
theorem part0 (R : Fin 6144) (l : Fin 4096) : k0_pay10 U W S (ix2 R l) = k0_pay9 U W S (ix2 R ⟨0 + l.val, by omega⟩) := by
  unfold k0_pay10
  generalize k0_pay9 U W S = v
  pointwise

/-- the second the next 4096, -/
theorem part1 (v : FVec Ideal S6144x8512 .bf16) (R : Fin 6144) (l : Fin 4096) : k0_pay1 v (ix2 R l) = v (ix2 R ⟨4096 + l.val, by omega⟩) := by
  unfold k0_pay1; pointwise

/-- the third the next 128, -/
theorem part2 (v : FVec Ideal S6144x8512 .bf16) (R : Fin 6144) (l : Fin 128) : k0_pay2 v (ix2 R l) = v (ix2 R ⟨8192 + l.val, by omega⟩) := by
  unfold k0_pay2; pointwise

/-- the fourth the next 128, -/
theorem part3 (v : FVec Ideal S6144x8512 .bf16) (R : Fin 6144) (l : Fin 128) : k0_pay3 v (ix2 R l) = v (ix2 R ⟨8320 + l.val, by omega⟩) := by
  unfold k0_pay3; pointwise

/-- the fifth the last 64. -/
theorem part4 (v : FVec Ideal S6144x8512 .bf16) (R : Fin 6144) (l : Fin 64) : k0_pay4 v (ix2 R l) = v (ix2 R ⟨8448 + l.val, by omega⟩) := by
  unfold k0_pay4; pointwise

end Cert.ReferenceIdeal.Hand

end
-- ==== Proof.ReferenceIdeal.Arrays.lean ====
/- What the reference's seven result arrays hold after its run, over the ideal numbers: the projection's five column ranges, the
   codes and the scales, as functions of the arrays its one step is entered with. -/
module

public import proofs.«01_k».proof.Proof.Gen.ReferenceIdeal.Frame
public import proofs.«01_k».proof.Proof.ReferenceIdeal.Block
public import Idealize.ShloMosaic.Lib.Pipeline.ValueKit.Geometry

@[expose] public section

set_option maxRecDepth 16384

noncomputable section

namespace Cert.ReferenceIdeal.Hand

open Idealize.ShloMosaic Idealize.ShloMosaic.TcCoe Idealize.ShloMosaic.Tactic
open Idealize.SL Idealize.SL.Sem
open Cert.ReferenceIdeal Cert.ReferenceIdeal.Gen Cert.Rows

/-! ## The blocks are the whole arrays -/

section
variable (U : Vec Ideal S6144x5888 .bf16) (W : Vec Ideal S8512x5888 .fp8e4m3) (S : Vec Ideal S1x8512 .f32)

theorem ld_U : View.ld U r0_0 = U := View.ld_unit_zero (by decide) _ U
theorem ld_W : View.ld W r0_1 = W := View.ld_unit_zero (by decide) _ W
theorem ld_S : View.ld S r0_2 = S := View.ld_unit_zero (by decide) _ S

/-- The first result: columns 0 to 4095. -/
theorem out_3 : out0_3 U W S = cols invLog scaleLog U W S 4096 0 (by norm_num) := by
  funext i
  obtain ⟨R, l, rfl⟩ : ∃ (R : Fin 6144) (l : Fin 4096), i = ix2 R l := ⟨i 0, i 1, (ix2_eta i).symm⟩
  unfold out0_3
  rw [ld_U, ld_W, ld_S, View.canon_cons_unit_zero (by decide), part0]
  exact proj_ref U W S R _

/-- The second: columns 4096 to 8191. -/
theorem out_4 : out0_4 U W S = cols invLog scaleLog U W S 4096 4096 (by norm_num) := by
  funext i
  obtain ⟨R, l, rfl⟩ : ∃ (R : Fin 6144) (l : Fin 4096), i = ix2 R l := ⟨i 0, i 1, (ix2_eta i).symm⟩
  unfold out0_4 k0_pay11
  rw [ld_U, ld_W, ld_S, View.canon_cons_unit_zero (by decide), part1]
  exact proj_ref U W S R _

/-- The third: columns 8192 to 8319. -/
theorem out_5 : out0_5 U W S = cols invLog scaleLog U W S 128 8192 (by norm_num) := by
  funext i
  obtain ⟨R, l, rfl⟩ : ∃ (R : Fin 6144) (l : Fin 128), i = ix2 R l := ⟨i 0, i 1, (ix2_eta i).symm⟩
  unfold out0_5 k0_pay11
  rw [ld_U, ld_W, ld_S, View.canon_cons_unit_zero (by decide), part2]
  exact proj_ref U W S R _

/-- The fourth: columns 8320 to 8447. -/
theorem out_6 : out0_6 U W S = cols invLog scaleLog U W S 128 8320 (by norm_num) := by
  funext i
  obtain ⟨R, l, rfl⟩ : ∃ (R : Fin 6144) (l : Fin 128), i = ix2 R l := ⟨i 0, i 1, (ix2_eta i).symm⟩
  unfold out0_6 k0_pay11
  rw [ld_U, ld_W, ld_S, View.canon_cons_unit_zero (by decide), part3]
  exact proj_ref U W S R _

/-- The fifth: columns 8448 to 8511. -/
theorem out_7 : out0_7 U W S = cols invLog scaleLog U W S 64 8448 (by norm_num) := by
  funext i
  obtain ⟨R, l, rfl⟩ : ∃ (R : Fin 6144) (l : Fin 64), i = ix2 R l := ⟨i 0, i 1, (ix2_eta i).symm⟩
  unfold out0_7 k0_pay11
  rw [ld_U, ld_W, ld_S, View.canon_cons_unit_zero (by decide), part4]
  exact proj_ref U W S R _

/-- The sixth: the codes. -/
theorem out_8 : out0_8 U W S = allCodes invLog U := by
  funext i
  obtain ⟨R, k, rfl⟩ : ∃ (R : Fin 6144) (k : Fin 5888), i = ix2 R k := ⟨i 0, i 1, (ix2_eta i).symm⟩
  unfold out0_8
  rw [ld_U, View.canon_cons_unit_zero (by decide)]
  exact code_ref U R k

/-- The seventh: the scales. -/
theorem out_9 : out0_9 U W S = allScales scaleLog U := by
  funext i
  obtain ⟨R, z, rfl⟩ : ∃ (R : Fin 6144) (z : Fin 1), i = ix2 R z := ⟨i 0, i 1, (ix2_eta i).symm⟩
  obtain rfl : z = 0 := Subsingleton.elim _ _
  unfold out0_9
  rw [ld_U, View.canon_cons_unit_zero (by decide)]
  exact scale_ref U R

end

variable (m : (ℓ : Loc nD τ sig) → Buf (Elt Ideal) ℓ) (ρ : Dev nD → PrngReg) (c : Dev nD)

/-- The step's blocks are the arrays: the activations, -/
theorem iblk0 (t : Fin cfg0.N) : iblk m c 0 t = (V m c main_v0 : Vec Ideal S6144x5888 .bf16) := by
  have e : ∀ t : Fin cfg0.N, win0_0.index t = ![0, 0] := by decide +kernel
  funext y
  blk_simp [iblk]
  refine congrArg (V m c main_v0) ?_
  blk_ext [e t]

/-- the weights, -/
theorem iblk1 (t : Fin cfg0.N) : iblk m c 1 t = (V m c main_arg1 : Vec Ideal S8512x5888 .fp8e4m3) := by
  have e : ∀ t : Fin cfg0.N, win0_1.index t = ![0, 0] := by decide +kernel
  funext y
  blk_simp [iblk]
  refine congrArg (V m c main_arg1) ?_
  blk_ext [e t]

/-- their scales. -/
theorem iblk2 (t : Fin cfg0.N) : iblk m c 2 t = (V m c main_v1 : Vec Ideal S1x8512 .f32) := by
  have e : ∀ t : Fin cfg0.N, win0_2.index t = ![0, 0] := by decide +kernel
  funext y
  blk_simp [iblk]
  refine congrArg (V m c main_v1) ?_
  blk_ext [e t]

/-- The columns of the projection the reference computes. -/
abbrev colsR (w off : ℕ) (h : off + w ≤ 8512) := cols invLog scaleLog (V m c main_v0) (V m c main_arg1) (V m c main_v1) w off h

theorem arr3 : (dats m 0 c).arrAt 3 cfg0.N = colsR m c 4096 0 (by norm_num) := by
  have e : ∀ t : Fin cfg0.N, win0_3.index t = ![0, 0] := by decide +kernel
  refine (dats m 0 c).arrAt_eq_of_covers 3 _ (by decide +kernel) fun t hf y => ?_
  blk_simp
  rw [after0_3, iblk0, iblk1, iblk2, out_3]
  refine congrArg (colsR m c 4096 0 (by norm_num)) ?_
  blk_ext [e t]

theorem arr4 : (dats m 0 c).arrAt 4 cfg0.N = colsR m c 4096 4096 (by norm_num) := by
  have e : ∀ t : Fin cfg0.N, win0_4.index t = ![0, 0] := by decide +kernel
  refine (dats m 0 c).arrAt_eq_of_covers 4 _ (by decide +kernel) fun t hf y => ?_
  blk_simp
  rw [after0_4, iblk0, iblk1, iblk2, out_4]
  refine congrArg (colsR m c 4096 4096 (by norm_num)) ?_
  blk_ext [e t]

theorem arr5 : (dats m 0 c).arrAt 5 cfg0.N = colsR m c 128 8192 (by norm_num) := by
  have e : ∀ t : Fin cfg0.N, win0_5.index t = ![0, 0] := by decide +kernel
  refine (dats m 0 c).arrAt_eq_of_covers 5 _ (by decide +kernel) fun t hf y => ?_
  blk_simp
  rw [after0_5, iblk0, iblk1, iblk2, out_5]
  refine congrArg (colsR m c 128 8192 (by norm_num)) ?_
  blk_ext [e t]

theorem arr6 : (dats m 0 c).arrAt 6 cfg0.N = colsR m c 128 8320 (by norm_num) := by
  have e : ∀ t : Fin cfg0.N, win0_6.index t = ![0, 0] := by decide +kernel
  refine (dats m 0 c).arrAt_eq_of_covers 6 _ (by decide +kernel) fun t hf y => ?_
  blk_simp
  rw [after0_6, iblk0, iblk1, iblk2, out_6]
  refine congrArg (colsR m c 128 8320 (by norm_num)) ?_
  blk_ext [e t]

theorem arr7 : (dats m 0 c).arrAt 7 cfg0.N = colsR m c 64 8448 (by norm_num) := by
  have e : ∀ t : Fin cfg0.N, win0_7.index t = ![0, 0] := by decide +kernel
  refine (dats m 0 c).arrAt_eq_of_covers 7 _ (by decide +kernel) fun t hf y => ?_
  blk_simp
  rw [after0_7, iblk0, iblk1, iblk2, out_7]
  refine congrArg (colsR m c 64 8448 (by norm_num)) ?_
  blk_ext [e t]

theorem arr8 : (dats m 0 c).arrAt 8 cfg0.N = allCodes invLog (V m c main_v0) := by
  have e : ∀ t : Fin cfg0.N, win0_8.index t = ![0, 0] := by decide +kernel
  refine (dats m 0 c).arrAt_eq_of_covers 8 _ (by decide +kernel) fun t hf y => ?_
  blk_simp
  rw [after0_8, iblk0, iblk1, iblk2, out_8]
  refine congrArg (allCodes invLog (V m c main_v0)) ?_
  blk_ext [e t]

theorem arr9 : (dats m 0 c).arrAt 9 cfg0.N = allScales scaleLog (V m c main_v0) := by
  have e : ∀ t : Fin cfg0.N, win0_9.index t = ![0, 0] := by decide +kernel
  refine (dats m 0 c).arrAt_eq_of_covers 9 _ (by decide +kernel) fun t hf y => ?_
  blk_simp
  rw [after0_9, iblk0, iblk1, iblk2, out_9]
  refine congrArg (allScales scaleLog (V m c main_v0)) ?_
  blk_ext [e t]

/-- The reference's run: its seven results, and its arguments as they were. -/
theorem run_values : θ_run defs (onTc (τ := τ) (main (F := Ideal))) ⟨m, fun _ => 0, ρ⟩ fun r => ∀ c : Dev nD,
    r.2.mem ((c.tc : Thread nD τ).loc main_v2_0) = colsR m c 4096 0 (by norm_num)
    ∧ r.2.mem ((c.tc : Thread nD τ).loc main_v2_1) = colsR m c 4096 4096 (by norm_num)
    ∧ r.2.mem ((c.tc : Thread nD τ).loc main_v2_2) = colsR m c 128 8192 (by norm_num)
    ∧ r.2.mem ((c.tc : Thread nD τ).loc main_v2_3) = colsR m c 128 8320 (by norm_num)
    ∧ r.2.mem ((c.tc : Thread nD τ).loc main_v2_4) = colsR m c 64 8448 (by norm_num)
    ∧ r.2.mem ((c.tc : Thread nD τ).loc main_v2_5) = allCodes invLog (V m c main_v0)
    ∧ r.2.mem ((c.tc : Thread nD τ).loc main_v2_6) = allScales scaleLog (V m c main_v0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 3).trans (arr3 m c), ((h c).1 4).trans (arr4 m c), ((h c).1 5).trans (arr5 m c), ((h c).1 6).trans (arr6 m c),
    ((h c).1 7).trans (arr7 m c), ((h c).1 8).trans (arr8 m c), ((h c).1 9).trans (arr9 m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩

end Cert.ReferenceIdeal.Hand

end
-- ==== Proof.Equation.lean ====
/- The equation: over the ideal numbers and finite activations, the kernel and the reference, entered with equal arguments, end
   with equal results. Both read the activations as 6144 rows and the weights' scales as one row; the kernel finds each row's
   exponent bit by bit, the reference by logarithm, and for finite rows the two agree (`Cert.Rows`). -/
module

public import proofs.«01_k».proof.Defs
public import proofs.«01_k».proof.Proof.Gen.Pre_finite
public import proofs.«01_k».proof.Proof.KernelIdeal.Arrays
public import proofs.«01_k».proof.Proof.ReferenceIdeal.Arrays

@[expose] public section

set_option maxRecDepth 16384

noncomputable section

namespace Cert.Equation

open Idealize.ShloMosaic Idealize.ShloMosaic.TcCoe Idealize.SL.Sem Cert.Rows

/-- The activations as rows. -/
def rows (X : (⟨3, ![4, 1536, 5888]⟩ : Shape).Idx → EReal) : (⟨2, ![6144, 5888]⟩ : Shape).Idx → EReal :=
  shapeCast ⟨2, ![6144, 5888]⟩ X KernelIdeal.Gen.shapeCasts_S4x1536x5888_S6144x5888

/-- The weights' scales as a row. -/
def oneRow (X : (⟨1, ![8512]⟩ : Shape).Idx → EReal) : (⟨2, ![1, 8512]⟩ : Shape).Idx → EReal :=
  shapeCast ⟨2, ![1, 8512]⟩ X KernelIdeal.Gen.shapeCasts_S8512_S1x8512

/-- What the kernel is entered with: the activations as rows, -/
theorem rowsK (m : (ℓ : Loc KernelIdeal.nD KernelIdeal.τ KernelIdeal.sig) → Buf (Elt Ideal) ℓ) (c : Dev KernelIdeal.nD) :
    KernelIdeal.Gen.V m c KernelIdeal.main_v0 = rows (m ((c.tc : Thread KernelIdeal.nD KernelIdeal.τ).loc KernelIdeal.main_arg0)) := by
  show StableHlo.after KernelIdeal.Gen.hostOps0 (fun b => m (c, b)) KernelIdeal.main_v0 = _
  rw [StableHlo.after_cons, StableHlo.after_cons, StableHlo.after_nil, StableHlo.reshape_result_ne' (h := by decide),
    StableHlo.reshape_result']
  rfl

/-- the weights' scales as a row. -/
theorem scalesK (m : (ℓ : Loc KernelIdeal.nD KernelIdeal.τ KernelIdeal.sig) → Buf (Elt Ideal) ℓ) (c : Dev KernelIdeal.nD) :
    KernelIdeal.Gen.V m c KernelIdeal.main_v1 = oneRow (m ((c.tc : Thread KernelIdeal.nD KernelIdeal.τ).loc KernelIdeal.main_arg2)) := by
  show StableHlo.after KernelIdeal.Gen.hostOps0 (fun b => m (c, b)) KernelIdeal.main_v1 = _
  rw [StableHlo.after_cons, StableHlo.after_cons, StableHlo.after_nil, StableHlo.reshape_result',
    StableHlo.reshape_result_ne' (h := by decide)]
  rfl

/-- What the reference is entered with: the activations as rows, -/
theorem rowsR (m : (ℓ : Loc ReferenceIdeal.nD ReferenceIdeal.τ ReferenceIdeal.sig) → Buf (Elt Ideal) ℓ) (c : Dev ReferenceIdeal.nD) :
    ReferenceIdeal.Gen.V m c ReferenceIdeal.main_v0 = rows (m ((c.tc : Thread ReferenceIdeal.nD ReferenceIdeal.τ).loc ReferenceIdeal.main_arg0)) := by
  show StableHlo.after ReferenceIdeal.Gen.hostOps0 (fun b => m (c, b)) ReferenceIdeal.main_v0 = _
  rw [StableHlo.after_cons, StableHlo.after_cons, StableHlo.after_nil, StableHlo.reshape_result_ne' (h := by decide),
    StableHlo.reshape_result']
  rfl

/-- the weights' scales as a row. -/
theorem scalesR (m : (ℓ : Loc ReferenceIdeal.nD ReferenceIdeal.τ ReferenceIdeal.sig) → Buf (Elt Ideal) ℓ) (c : Dev ReferenceIdeal.nD) :
    ReferenceIdeal.Gen.V m c ReferenceIdeal.main_v1 = oneRow (m ((c.tc : Thread ReferenceIdeal.nD ReferenceIdeal.τ).loc ReferenceIdeal.main_arg2)) := by
  show StableHlo.after ReferenceIdeal.Gen.hostOps0 (fun b => m (c, b)) ReferenceIdeal.main_v1 = _
  rw [StableHlo.after_cons, StableHlo.after_cons, StableHlo.after_nil, StableHlo.reshape_result',
    StableHlo.reshape_result_ne' (h := by decide)]
  rfl

/-- The precondition says that the activations are finite, element by element, -/
theorem finite_apply (X : Vec Ideal Pre_finite.S4x1536x5888 .bf16) (W S)
    (h : @Pre_finite.fn Pre_finite.Gen.facts Ideal _ X W S = fun _ => 1#1) (i : Pre_finite.S4x1536x5888.Idx) :
    max (X i : EReal) (-(X i)) ≤ Ideal.ofBits .f32 0x7F7F0000#32 := by
  have e : Ideal.cmp .ole (max (X i : EReal) (-(X i))) (Ideal.ofBits .f32 0x7F7F0000#32) = 1#1 := congrFun h i
  unfold Ideal.cmp at e
  by_contra hn
  simp [hn] at e

/-- so every row is. -/
theorem finite_rows (X : Vec Ideal Pre_finite.S4x1536x5888 .bf16) (W S)
    (h : @Pre_finite.fn Pre_finite.Gen.facts Ideal _ X W S = fun _ => 1#1) (R : Fin 6144) : Finite (rowOf (rows X) R) :=
  fun k => finite_apply X W S h (Shape.reshapeEquiv KernelIdeal.Gen.shapeCasts_S4x1536x5888_S6144x5888 (ix2 R k))

/-- Entered with equal arguments, the activations finite, the kernel and the reference end with equal results. -/
theorem algebraic : @Cert.algebraic_KernelIdeal_ReferenceIdeal_pre_finite KernelIdeal.Gen.facts ReferenceIdeal.Gen.facts Pre_finite.Gen.facts := by
  intro m g m' g' hfin hargs
  have hU : ∀ c, ReferenceIdeal.Gen.V m' c ReferenceIdeal.main_v0 = KernelIdeal.Gen.V m c KernelIdeal.main_v0 := fun c => by
    rw [rowsK, rowsR]; exact congrArg rows (hargs c).1
  have hW : ∀ c, ReferenceIdeal.Gen.V m' c ReferenceIdeal.main_arg1 = KernelIdeal.Gen.V m c KernelIdeal.main_arg1 := fun c => by
    rw [KernelIdeal.Gen.V_main_arg1, ReferenceIdeal.Gen.V_main_arg1]; exact (hargs c).2.1
  have hS : ∀ c, ReferenceIdeal.Gen.V m' c ReferenceIdeal.main_v1 = KernelIdeal.Gen.V m c KernelIdeal.main_v1 := fun c => by
    rw [scalesK, scalesR]; exact congrArg oneRow (hargs c).2.2
  have hF : ∀ c R, Finite (rowOf (KernelIdeal.Gen.V m c KernelIdeal.main_v0) R) := fun c R => by
    rw [rowsK]; exact finite_rows _ _ _ (hfin c) R
  have hcols : ∀ (c : Dev KernelIdeal.nD) (w off : ℕ) (h : off + w ≤ 8512),
      ReferenceIdeal.Hand.colsR m' c w off h = KernelIdeal.Hand.colsK m c w off h := fun c w off h => by
    unfold ReferenceIdeal.Hand.colsR KernelIdeal.Hand.colsK
    rw [hU, hW, hS]; exact (cols_eq (hF c) _ _ w off h).symm
  have hcodes : ∀ c, allCodes invLog (ReferenceIdeal.Gen.V m' c ReferenceIdeal.main_v0)
      = allCodes invBits (KernelIdeal.Gen.V m c KernelIdeal.main_v0) := fun c => by
    rw [hU]; exact (allCodes_eq (hF c)).symm
  have hscales : ∀ c, allScales scaleLog (ReferenceIdeal.Gen.V m' c ReferenceIdeal.main_v0)
      = allScales scaleBits (KernelIdeal.Gen.V m c KernelIdeal.main_v0) := fun c => by
    rw [hU]; exact (allScales_eq (hF c)).symm
  refine ⟨fun c => KernelIdeal.Hand.colsK m c 4096 0 (by norm_num), fun c => KernelIdeal.Hand.colsK m c 4096 4096 (by norm_num),
    fun c => KernelIdeal.Hand.colsK m c 128 8192 (by norm_num), fun c => KernelIdeal.Hand.colsK m c 128 8320 (by norm_num),
    fun c => KernelIdeal.Hand.colsK m c 64 8448 (by norm_num), fun c => allCodes invBits (KernelIdeal.Gen.V m c KernelIdeal.main_v0),
    fun c => allScales scaleBits (KernelIdeal.Gen.V m c KernelIdeal.main_v0), KernelIdeal.Hand.run_values m g, ?_⟩
  refine (θ_run ReferenceIdeal.defs _ _).mono (fun r h c => ?_) (ReferenceIdeal.Hand.run_values m' g')
  obtain ⟨h0, h1, h2, h3, h4, h5, h6, ha⟩ := h c
  exact ⟨h0.trans (hcols c _ _ _), h1.trans (hcols c _ _ _), h2.trans (hcols c _ _ _), h3.trans (hcols c _ _ _),
    h4.trans (hcols c _ _ _), h5.trans (hcodes c), h6.trans (hscales c), ha⟩

end Cert.Equation

end
-- ==== Proof.lean ====
/- The proof of the claims: the kernel runs, keeps its arguments and leaves every semaphore at zero, over any numbers and over
   the ideal ones; so does the reference; and over the ideal numbers the two end with equal results, if the activations are
   finite. -/
module

public import proofs.«01_k».proof.Defs
public import proofs.«01_k».proof.Proof.Gen.Pre_finite
public import proofs.«01_k».proof.Proof.Kernel.Frame
public import proofs.«01_k».proof.Proof.Equation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    fun m g _ => Cert.Kernel.Hand.frame (F := Bits) m g,
    fun m g _ => Cert.KernelIdeal.Hand.frame (F := Ideal) m g,
    fun m g _ => Cert.KernelIdeal.Hand.frame (F := Ideal) m g,
    fun m g _ => Cert.ReferenceIdeal.Gen.frame (F := Ideal) m g,
    fun m g _ => Cert.ReferenceIdeal.Gen.frame (F := Ideal) m g,
    trivial,
    Cert.Equation.algebraic⟩

end Cert.Proof

end
